-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_

variable [Facts]

def fn {F : FTy → Type} [FloatOps F] (main_arg0 : FVec F S1x2048x768 .f32) (main_arg1 : FVec F S768x2304 .f32) (main_arg2 : FVec F S2304 .f32) (main_arg3 : FVec F S768x768 .f32) (main_arg4 : FVec F S768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  main_v13
-- ==== Kernel.lean ====
abbrev S1x2048x768 : Shape := ⟨3, ![1, 2048, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S2048x768 : Shape := ⟨2, ![2048, 768]⟩
abbrev S9x1x256 : Shape := ⟨3, ![9, 1, 256]⟩
abbrev S1x768 : Shape := ⟨2, ![1, 768]⟩
abbrev S768x256 : Shape := ⟨2, ![768, 256]⟩
abbrev S1x1x256 : Shape := ⟨3, ![1, 1, 256]⟩
abbrev S256x768 : Shape := ⟨2, ![256, 768]⟩
abbrev S1x256 : Shape := ⟨2, ![1, 256]⟩
abbrev S2048x256 : Shape := ⟨2, ![2048, 256]⟩
abbrev S2048x128 : Shape := ⟨2, ![2048, 128]⟩
abbrev S256 : Shape := ⟨1, ![256]⟩
abbrev S256x256 : Shape := ⟨2, ![256, 256]⟩
abbrev S1024x768 : Shape := ⟨2, ![1024, 768]⟩
abbrev S1024x256 : Shape := ⟨2, ![1024, 256]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S1024x128 : Shape := ⟨2, ![1024, 128]⟩

abbrev nBuf : Space → Nat
  | .hbm => 9
  | .vmem => 17
  | .smem => 0
  | _ => 0

abbrev bufTy : (tb : Table) → Fin (tcTables nBuf tb) → BufTy
  | .hbm, ⟨0, _⟩ => ⟨S1x2048x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S2048x768, .f32⟩
  | .hbm, ⟨6, _⟩ => ⟨S9x1x256, .f32⟩
  | .hbm, ⟨7, _⟩ => ⟨S1x768, .f32⟩
  | .hbm, ⟨8, _⟩ => ⟨S2048x768, .f32⟩
  | .local _ .vmem, ⟨0, _⟩ => ⟨S2048x768, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S768x256, .f32⟩
  | .local _ .vmem, ⟨5, _⟩ => ⟨S768x256, .f32⟩
  | .local _ .vmem, ⟨6, _⟩ => ⟨S768x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S256x768, .f32⟩
  | .local _ .vmem, ⟨14, _⟩ => ⟨S256x768, .f32⟩
  | .local _ .vmem, ⟨15, _⟩ => ⟨S1x768, .f32⟩
  | .local _ .vmem, ⟨16, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S1x2048x768 : Shape := ⟨3, ![1, 2048, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S1x2048x2304 : Shape := ⟨3, ![1, 2048, 2304]⟩
abbrev S1x1x2304 : Shape := ⟨3, ![1, 1, 2304]⟩
abbrev S1x2048x12x64 : Shape := ⟨4, ![1, 2048, 12, 64]⟩
abbrev S1x12x2048x64 : Shape := ⟨4, ![1, 12, 2048, 64]⟩
abbrev S1x12x2048x16x4 : Shape := ⟨5, ![1, 12, 2048, 16, 4]⟩
abbrev S_ : Shape := ⟨0, ![]⟩
abbrev S1x12x2048x16 : Shape := ⟨4, ![1, 12, 2048, 16]⟩
abbrev S1x12x2048x16x1 : Shape := ⟨5, ![1, 12, 2048, 16, 1]⟩
abbrev S2048 : Shape := ⟨1, ![2048]⟩
abbrev S2048x1 : Shape := ⟨2, ![2048, 1]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩
abbrev S1x1x768 : Shape := ⟨3, ![1, 1, 768]⟩
abbrev S2048x768 : Shape := ⟨2, ![2048, 768]⟩

abbrev nBuf : Space → Nat
  | .hbm => 96
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S1x2048x2304, .f32⟩
  | .hbm, ⟨6, _⟩ => ⟨S1x1x2304, .f32⟩
  | .hbm, ⟨7, _⟩ => ⟨S1x2048x2304, .f32⟩
  | .hbm, ⟨8, _⟩ => ⟨S1x2048x2304, .f32⟩
  | .hbm, ⟨9, _⟩ => ⟨S1x2048x768, .f32⟩
  | .hbm, ⟨10, _⟩ => ⟨S1x2048x768, .f32⟩
  | .hbm, ⟨11, _⟩ => ⟨S1x2048x768, .f32⟩
  | .hbm, ⟨12, _⟩ => ⟨S1x2048x12x64, .f32⟩
  | .hbm, ⟨13, _⟩ => ⟨S1x12x2048x64, .f32⟩
  | .hbm, ⟨14, _⟩ => ⟨S1x2048x12x64, .f32⟩
  | .hbm, ⟨15, _⟩ => ⟨S1x12x2048x64, .f32⟩
  | .hbm, ⟨16, _⟩ => ⟨S1x2048x12x64, .f32⟩
  | .hbm, ⟨17, _⟩ => ⟨S1x12x2048x64, .f32⟩
  | .hbm, ⟨18, _⟩ => ⟨S1x12x2048x16x4, .f32⟩
  | .hbm, ⟨19, _⟩ => ⟨S1x12x2048x16x4, .f32⟩
  | .hbm, ⟨20, _⟩ => ⟨S_, .f32⟩
  | .hbm, ⟨21, _⟩ => ⟨S1x12x2048x16, .f32⟩
  | .hbm, ⟨22, _⟩ => ⟨S1x12x2048x16x1, .f32⟩
  | .hbm, ⟨23, _⟩ => ⟨S_, .f32⟩
  | .hbm, ⟨24, _⟩ => ⟨S1x12x2048x16x1, .f32⟩
  | .hbm, ⟨25, _⟩ => ⟨S1x12x2048x16x1, .i1⟩
  | .hbm, ⟨26, _⟩ => ⟨S_, .f32⟩
  | .hbm, ⟨27, _⟩ => ⟨S1x12x2048x16x1, .f32⟩
  | .hbm, ⟨28, _⟩ => ⟨S1x12x2048x16x1, .f32⟩
  | .hbm, ⟨29, _⟩ => ⟨S_, .f32⟩
  | .hbm, ⟨30, _⟩ => ⟨S_, .f32⟩
  | .hbm, ⟨31, _⟩ => ⟨S1x12x2048x16x1, .f32⟩
  | .hbm, ⟨32, _⟩ => ⟨S1x12x2048x16x1, .f32⟩
  | .hbm, ⟨33, _⟩ => ⟨S1x12x2048x16x4, .f32⟩
  | .hbm, ⟨34, _⟩ => ⟨S1x12x2048x16x4, .f32⟩
  | .hbm, ⟨35, _⟩ => ⟨S1x12x2048x16x4, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S1x12x2048x16x4, .f32⟩
  | .hbm, ⟨40, _⟩ => ⟨S1x12x2048x16x4, .f32⟩
  | .hbm, ⟨41, _⟩ => ⟨S_, .f32⟩
  | .hbm, ⟨42, _⟩ => ⟨S1x12x2048x16x4, .f32⟩
  | .hbm, ⟨43, _⟩ => ⟨S1x12x2048x16x4, .f32⟩
  | .hbm, ⟨44, _⟩ => ⟨S1x12x2048x16x4, .f32⟩
  | .hbm, ⟨45, _⟩ => ⟨S1x12x2048x16x4, .f32⟩
  | .hbm, ⟨46, _⟩ => ⟨S1x12x2048x64, .f32⟩
  | .hbm, ⟨47, _⟩ => ⟨S2048, .i32⟩
  | .hbm, ⟨48, _⟩ => ⟨S_, .f32⟩
  | .hbm, ⟨49, _⟩ => ⟨S1x12x2048x64, .f32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048x1, .i32⟩
  | .hbm, ⟨58, _⟩ => ⟨S1x12x2048x64, .f32⟩
  | .hbm, ⟨59, _⟩ => ⟨S_, .f32⟩
  | .hbm, ⟨60, _⟩ => ⟨S1x12x2048x64, .f32⟩
  | .hbm, ⟨61, _⟩ => ⟨S_, .i32⟩
  | .hbm, ⟨62, _⟩ => ⟨S2048, .i32⟩
  | .hbm, ⟨63, _⟩ => ⟨S2048, .i1⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S2048x1, .i32⟩
  | .hbm, ⟨69, _⟩ => ⟨S1x12x2048x64, .f32⟩
  | .hbm, ⟨70, _⟩ => ⟨S1x12x2048x2048, .f32⟩
  | .hbm, ⟨71, _⟩ => ⟨S_, .f32⟩
  | .hbm, ⟨72, _⟩ => ⟨S1x12x2048x2048, .f32⟩
  | .hbm, ⟨73, _⟩ => ⟨S1x12x2048x2048, .f32⟩
  | .hbm, ⟨74, _⟩ => ⟨S_, .f32⟩
  | .hbm, ⟨75, _⟩ => ⟨S1x12x2048, .f32⟩
  | .hbm, ⟨76, _⟩ => ⟨S_, .f32⟩
  | .hbm, ⟨77, _⟩ => ⟨S1x12x2048, .f32⟩
  | .hbm, ⟨78, _⟩ => ⟨S1x12x2048, .f32⟩
  | .hbm, ⟨79, _⟩ => ⟨S1x12x2048x1, .f32⟩
  | .hbm, ⟨80, _⟩ => ⟨S1x12x2048x2048, .f32⟩
  | .hbm, ⟨81, _⟩ => ⟨S1x12x2048x2048, .f32⟩
  | .hbm, ⟨82, _⟩ => ⟨S1x12x2048x2048, .f32⟩
  | .hbm, ⟨83, _⟩ => ⟨S_, .f32⟩
  | .hbm, ⟨84, _⟩ => ⟨S1x12x2048, .f32⟩
  | .hbm, ⟨85, _⟩ => ⟨S1x12x2048x1, .f32⟩
  | .hbm, ⟨86, _⟩ => ⟨S1x12x2048x2048, .f32⟩
  | .hbm, ⟨87, _⟩ => ⟨S1x12x2048x2048, .f32⟩
  | .hbm, ⟨88, _⟩ => ⟨S1x12x2048x64, .f32⟩
  | .hbm, ⟨89, _⟩ => ⟨S1x2048x12x64, .f32⟩
  | .hbm, ⟨90, _⟩ => ⟨S1x2048x768, .f32⟩
  | .hbm, ⟨91, _⟩ => ⟨S1x2048x768, .f32⟩
  | .hbm, ⟨92, _⟩ => ⟨S1x1x768, .f32⟩
  | .hbm, ⟨93, _⟩ => ⟨S1x2048x768, .f32⟩
  | .hbm, ⟨94, _⟩ => ⟨S1x2048x768, .f32⟩
  | .hbm, ⟨95, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Proof.Spec.lean ====
/- Attention over dequantised keys as a function of real arrays, and the facts about the extended
   reals that read the kernel's and the reference's scalar operations on real numbers. -/
module

public import Idealize.ShloMosaic.Lib.Pointwise
public import Idealize.ShloMosaic.PureOps.Ideal
public import Idealize.ShloMosaic.PureOps.Ideal.Laws

@[expose] public section

noncomputable section

namespace Cert.Attn

open Idealize.ShloMosaic

/-! ## The function both programs compute -/

/-- The first projection: row `s`, column `c` of `X · W + B`. -/
def qkv (X W : ℕ → ℕ → ℝ) (B : ℕ → ℝ) (s c : ℕ) : ℝ :=
  (∑ i : Fin 768, X s i.val * W i.val c) + B c

/-- The largest magnitude of the four keys that share a scale with column `j`. -/
def grp (k : ℕ → ℝ) (j : ℕ) : ℝ :=
  max (max (max |k (j / 4 * 4)| |k (j / 4 * 4 + 1)|) |k (j / 4 * 4 + 2)|) |k (j / 4 * 4 + 3)|

/-- A group's scale: its largest magnitude, or one where that is zero. -/
def scl (a : ℝ) : ℝ := if 0 < a then a else 1

/-- A key rounded to the integers -2, …, 1 in units of its scale, and scaled back. -/
def deq (a s : ℝ) : ℝ := min 1 (max (-2) ((Ideal.roundHalfEven (a / s) : ℤ) : ℝ)) * s

/-- The dequantised key in column `j` of a row of keys. -/
def kd (k : ℕ → ℝ) (j : ℕ) : ℝ := deq (k j) (scl (grp k j))

/-- The score of query row `s` against key row `t` in the head that starts at column `o`. -/
def score (X W : ℕ → ℕ → ℝ) (B : ℕ → ℝ) (o s t : ℕ) : ℝ :=
  ∑ d : Fin 64, qkv X W B s (o + d.val) * kd (fun j => qkv X W B t (768 + j)) (o + d.val)

/-- The attention output at row `s`, column `j`: the values' mean, weighted by the exponentials of
    an eighth of the scores. -/
def att (X W : ℕ → ℕ → ℝ) (B : ℕ → ℝ) (s j : ℕ) : ℝ :=
  (∑ t : Fin 2048, Real.exp (score X W B (j / 64 * 64) s t.val / 8) * qkv X W B t.val (1536 + j))
    / ∑ t : Fin 2048, Real.exp (score X W B (j / 64 * 64) s t.val / 8)

/-! ## Scalar operations on real numbers -/

/-- A sum of real numbers, on the extended reals. -/
theorem coe_sum {n : ℕ} (f : Fin n → ℝ) : (∑ i, ((f i : ℝ) : EReal)) = ((∑ i, f i : ℝ) : EReal) := by
  induction n with
  | zero => simp
  | succ n ih => rw [Fin.sum_univ_succ, Fin.sum_univ_succ, EReal.coe_add, ih]

/-- A maximum of two real numbers, on the extended reals. -/
theorem coe_max (a b : ℝ) : max (a : EReal) (b : EReal) = ((max a b : ℝ) : EReal) :=
  (EReal.coe_strictMono.monotone.map_max (a := a) (b := b)).symm

/-- A minimum of two real numbers, on the extended reals. -/
theorem coe_min (a b : ℝ) : min (a : EReal) (b : EReal) = ((min a b : ℝ) : EReal) :=
  (EReal.coe_strictMono.monotone.map_min (a := a) (b := b)).symm

/-- A magnitude of a real number, on the extended reals. -/
theorem coe_abs (a : ℝ) : max (a : EReal) (-(a : EReal)) = ((|a| : ℝ) : EReal) := by
  rw [← EReal.coe_neg, coe_max]; rfl

/-- A quotient of real numbers, on the extended reals. -/
theorem coe_div (a b : ℝ) (hb : b ≠ 0) : Ideal.div (a : EReal) (b : EReal) = ((a / b : ℝ) : EReal) := by
  rw [Ideal.div, if_neg (by simpa using hb), ← EReal.coe_inv, ← EReal.coe_mul, div_eq_mul_inv]

/-- A real number rounded half to even, on the extended reals. -/
theorem coe_round (a : ℝ) : Ideal.liftRound Ideal.roundHalfEven (a : EReal)
    = (((Ideal.roundHalfEven a : ℤ) : ℝ) : EReal) := rfl

/-- A group's scale is positive. -/
theorem scl_pos (a : ℝ) : 0 < scl a := by
  unfold scl; split
  · assumption
  · exact one_pos

/-- The largest magnitude of a group is not negative. -/
theorem grp_nonneg (k : ℕ → ℝ) (j : ℕ) : 0 ≤ grp k j := le_max_of_le_right (abs_nonneg _)

/-- A comparison with zero on real numbers, as a bit. -/
theorem cmp_ogt_zero (a : ℝ) : Ideal.cmp .ogt (a : EReal) 0 = BitVec.ofBool (decide (0 < a)) := by
  simp only [Ideal.cmp]
  congr 1
  simp

/-- The scale read off the extended reals: the group's largest magnitude where positive, else one. -/
theorem select_scl (a : ℝ) :
    Scalar.select (Ideal.cmp .ogt (a : EReal) 0) (a : EReal) ((1 : ℝ) : EReal) = ((scl a : ℝ) : EReal) := by
  rw [cmp_ogt_zero]
  unfold scl
  by_cases h : 0 < a <;> simp [h, Scalar.select]

/-- The word of minus two. -/
theorem ofBits_neg_two : Ideal.ofBits .f32 0xC0000000#32 = ((-2 : ℝ) : EReal) := by
  simp only [Ideal.ofBits, Ideal.ieee]; simp; rw [← EReal.coe_mul]; norm_num

/-- The word of one. -/
theorem ofBits_one : Ideal.ofBits .f32 0x3F800000#32 = ((1 : ℝ) : EReal) := by
  simp [Ideal.ofBits, Ideal.ieee]; rw [← EReal.coe_mul, ← EReal.coe_one]; norm_num

/-- The word of eight. -/
theorem ofBits_eight : Ideal.ofBits .f32 0x41000000#32 = ((8 : ℝ) : EReal) := by
  simp [Ideal.ofBits, Ideal.ieee]; rw [← EReal.coe_mul]; norm_num

/-- The word of infinity. -/
theorem ofBits_top : Ideal.ofBits .f32 0x7F800000#32 = ⊤ := by
  simp [Ideal.ofBits, Ideal.ieee]

/-- The word of minus infinity. -/
theorem ofBits_bot : Ideal.ofBits .f32 0xFF800000#32 = ⊥ := by
  simp [Ideal.ofBits, Ideal.ieee]

/-- A key quantised and scaled back, on the extended reals. -/
theorem coe_deq (a s : ℝ) (hs : 0 < s) :
    min ((1 : ℝ) : EReal) (max ((-2 : ℝ) : EReal) (Ideal.liftRound Ideal.roundHalfEven (Ideal.div (a : EReal) (s : EReal))))
      * (s : EReal) = ((deq a s : ℝ) : EReal) := by
  rw [coe_div _ _ hs.ne', coe_round, coe_max, coe_min, ← EReal.coe_mul]; rfl

/-- A positive sum of positive numbers, which divides. -/
theorem sum_exp_pos (f : Fin 2048 → ℝ) : 0 < ∑ t, Real.exp (f t) :=
  Finset.sum_pos (fun _ _ => Real.exp_pos _) ⟨0, Finset.mem_univ _⟩

/-- The weighted mean does not change where every exponent is shifted by one number. -/
theorem mean_shift (f v : Fin 2048 → ℝ) (m : ℝ) :
    (∑ t, Real.exp (f t - m) * v t) / ∑ t, Real.exp (f t - m) = (∑ t, Real.exp (f t) * v t) / ∑ t, Real.exp (f t) := by
  have h : ∀ t, Real.exp (f t - m) = Real.exp (-m) * Real.exp (f t) := fun t => by
    rw [← Real.exp_add]; ring_nf
  simp only [h, mul_assoc, ← Finset.mul_sum]
  exact mul_div_mul_left _ _ (Real.exp_pos _).ne'

/-- The kernel's base-two exponential of a score in units of `log 2`, shifted. -/
theorem exp2_shift (a m : ℝ) :
    Ideal.exp2 (((a * ((1 / 8) * (Real.log 2)⁻¹) - m : ℝ)) : EReal)
      = ((Real.exp (a / 8 - m * Real.log 2) : ℝ) : EReal) := by
  have h2 : Real.log 2 ≠ 0 := (Real.log_pos one_lt_two).ne'
  show (((2 : ℝ) ^ (a * ((1 / 8) * (Real.log 2)⁻¹) - m) : ℝ) : EReal) = _
  rw [Real.rpow_def_of_pos two_pos]
  congr 2
  field_simp

/-- One output of one head as the kernel computes it: scores from scaled queries, a shift that is
    any real number, and the sum of the weights from a column of ones. -/
theorem head_kernel (q : Fin 64 → ℝ) (k : Fin 2048 → Fin 64 → ℝ) (v : Fin 2048 → ℝ) (m : ℝ) :
    Ideal.div
      (∑ t : Fin 2048, Ideal.exp2 ((∑ d : Fin 64, ((q d * ((1 / 8) * (Real.log 2)⁻¹) : ℝ) : EReal) * ((k t d : ℝ) : EReal))
          - ((m : ℝ) : EReal)) * ((v t : ℝ) : EReal))
      (∑ t : Fin 2048, Ideal.exp2 ((∑ d : Fin 64, ((q d * ((1 / 8) * (Real.log 2)⁻¹) : ℝ) : EReal) * ((k t d : ℝ) : EReal))
          - ((m : ℝ) : EReal)) * ((1 : ℝ) : EReal))
    = (((∑ t : Fin 2048, Real.exp ((∑ d, q d * k t d) / 8) * v t)
        / ∑ t : Fin 2048, Real.exp ((∑ d, q d * k t d) / 8) : ℝ) : EReal) := by
  have hs : ∀ t, Ideal.exp2 ((∑ d : Fin 64, ((q d * ((1 / 8) * (Real.log 2)⁻¹) : ℝ) : EReal) * ((k t d : ℝ) : EReal))
      - ((m : ℝ) : EReal)) = ((Real.exp ((∑ d, q d * k t d) / 8 - m * Real.log 2) : ℝ) : EReal) := fun t => by
    simp only [← EReal.coe_mul]
    rw [coe_sum, ← EReal.coe_sub, ← exp2_shift]
    congr 3
    rw [Finset.sum_mul]
    exact Finset.sum_congr rfl fun d _ => by ring
  simp only [hs]
  simp only [← EReal.coe_mul, mul_one]
  rw [coe_sum, coe_sum, coe_div _ _ (sum_exp_pos _).ne', mean_shift]

/-- One output of one head as the reference computes it: a softmax with the row's maximum `m`
    subtracted, then the mean of the values. -/
theorem head_reference (q : Fin 64 → ℝ) (k : Fin 2048 → Fin 64 → ℝ) (v : Fin 2048 → ℝ) (m : ℝ)
    (e : Fin 2048 → EReal)
    (he : ∀ t, e t = Ideal.exp (Ideal.div (∑ d : Fin 64, ((q d : ℝ) : EReal) * ((k t d : ℝ) : EReal)) ((8 : ℝ) : EReal)
      - ((m : ℝ) : EReal))) :
    (∑ t : Fin 2048, Ideal.div (e t) (∑ u : Fin 2048, e u) * ((v t : ℝ) : EReal))
    = (((∑ t : Fin 2048, Real.exp ((∑ d, q d * k t d) / 8) * v t)
        / ∑ t : Fin 2048, Real.exp ((∑ d, q d * k t d) / 8) : ℝ) : EReal) := by
  have he' : ∀ t, e t = ((Real.exp ((∑ d, q d * k t d) / 8 - m) : ℝ) : EReal) := fun t => by
    rw [he]
    simp only [← EReal.coe_mul]
    rw [coe_sum, coe_div _ _ (by norm_num), ← EReal.coe_sub]
    rfl
  simp only [he', coe_sum]
  simp only [coe_div _ _ (sum_exp_pos _).ne', ← EReal.coe_mul]
  rw [coe_sum, ← mean_shift _ v m, Finset.sum_div]
  congr 1
  exact Finset.sum_congr rfl fun t _ => by ring

/-- A fold of maxima of real numbers over a nonempty range, from negative infinity, is real. -/
theorem fold_max_real {n : ℕ} [NeZero n] (f : Fin n → ℝ) :
    ∃ r : ℝ, (Finset.univ.fold max (⊥ : EReal) fun t => ((f t : ℝ) : EReal)) = (r : EReal) := by
  have h : ∀ s : Finset (Fin n), s.Nonempty → ∃ r : ℝ, (s.fold max (⊥ : EReal) fun t => ((f t : ℝ) : EReal)) = (r : EReal) := by
    intro s hs
    induction hs using Finset.Nonempty.cons_induction with
    | singleton a => exact ⟨f a, by simp⟩
    | cons a s ha hs ih =>
      obtain ⟨r, hr⟩ := ih
      exact ⟨max (f a) r, by rw [Finset.fold_cons, hr, coe_max]⟩
  exact h _ ⟨0, Finset.mem_univ _⟩

/-- A number that is neither infinity: what the precondition's comparison says of each argument. -/
theorem real_of_abs_lt_top {a : EReal} (h : max a (-a) < ⊤) : ∃ r : ℝ, a = (r : EReal) := by
  induction a with
  | bot => simp at h
  | top => simp at h
  | coe r => exact ⟨r, rfl⟩

end Cert.Attn

end
-- ==== Proof.Keys.lean ====
/- The kernel's projections, and the dequantised keys it computes with circular rotations of lanes. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Attn

open Cert.KernelIdeal Cert.KernelIdeal.Gen Idealize.ShloMosaic

/-- The matrix `f` of extended reals holds the real numbers `r`. -/
def Reads {m n : ℕ} (f : (⟨2, ![m, n]⟩ : Shape).Idx → EReal) (r : ℕ → ℕ → ℝ) : Prop :=
  ∀ (a : Fin m) (b : Fin n), f (ix2 a b) = ((r a.val b.val : ℝ) : EReal)

/-- A product of real matrices plus a real row, element by element. -/
theorem coe_affine {n : ℕ} (f h : Fin n → ℝ) (b : ℝ) :
    (∑ i, ((f i : ℝ) : EReal) * ((h i : ℝ) : EReal)) + ((b : ℝ) : EReal) = (((∑ i, f i * h i) + b : ℝ) : EReal) := by
  simp only [← EReal.coe_mul]
  rw [coe_sum, ← EReal.coe_add]

/-- The key projection of a block of columns. -/
theorem pay6_reads (x : FVec Ideal S2048x768 .f32) (w : FVec Ideal S768x256 .f32) (b : FVec Ideal S1x1x256 .f32)
    (X W : ℕ → ℕ → ℝ) (B : ℕ → ℝ) (hx : Reads x X) (hw : Reads w W) (hb : ∀ j : Fin 256, b (ix3 0 0 j) = ((B j.val : ℝ) : EReal)) :
    Reads (k0_pay6 (F := Ideal) x w b) (fun s j => (∑ i : Fin 768, X s i.val * W i.val j) + B j) := by
  intro s j
  pointwise [k0_pay6, k0_pay3]
  simp only [hx _ _, hw _ _, hb]
  exact coe_affine _ _ _

/-- The value projection of a block of columns. -/
theorem pay7_reads (x : FVec Ideal S2048x768 .f32) (w : FVec Ideal S768x256 .f32) (b : FVec Ideal S1x1x256 .f32)
    (X W : ℕ → ℕ → ℝ) (B : ℕ → ℝ) (hx : Reads x X) (hw : Reads w W) (hb : ∀ j : Fin 256, b (ix3 0 0 j) = ((B j.val : ℝ) : EReal)) :
    Reads (k0_pay7 (F := Ideal) x w b) (fun s j => (∑ i : Fin 768, X s i.val * W i.val j) + B j) := by
  intro s j
  pointwise [k0_pay7, k0_pay5, k0_pay3]
  simp only [hx _ _, hw _ _, hb]
  exact coe_affine _ _ _

/-- The largest magnitude among a lane and the three lanes after it, circularly. -/
def ahead (k : ℕ → ℝ) (j : ℕ) : ℝ :=
  max (max (max |k j| |k ((j + 1) % 256)|) |k ((j + 2) % 256)|) |k ((j + 3) % 256)|

/-- The running maximum of the key magnitudes over four neighbouring lanes. -/
theorem pay8_reads (x : FVec Ideal S2048x768 .f32) (w : FVec Ideal S768x256 .f32) (b : FVec Ideal S1x1x256 .f32)
    (K : ℕ → ℕ → ℝ) (hk : Reads (k0_pay6 (F := Ideal) x w b) K) : Reads (k0_pay8 (F := Ideal) x w b) (fun s j => ahead (K s) j) := by
  intro s j
  have h1 : (j.val + 256 - 255) % 256 = (j.val + 1) % 256 := by omega
  have h2 : (j.val + 256 - 254) % 256 = (j.val + 2) % 256 := by omega
  have h3 : (j.val + 256 - 253) % 256 = (j.val + 3) % 256 := by omega
  pointwise [k0_pay8]
  simp only [hk _ _, coe_abs, coe_max, h1, h2, h3]
  rfl

/-- The bit that marks the first lane of each group of four, as the kernel computes it from lane
    numbers. -/
theorem lead_bit : ∀ n : Fin 256,
    IntOp.cmpi .eq
      (Scalar.select
        (IntOp.andi
          (IntOp.xori
            (IntOp.cmpi .slt (IntOp.remsi .vector (BitVec.ofNat 32 n.val)
              (Scalar.select (Scalar.cmpi .eq 4#32 0#32) 1#32 4#32)) 0#32)
            (Scalar.cmpi .slt (Scalar.select (Scalar.cmpi .eq 4#32 0#32) 1#32 4#32) 0#32))
          (IntOp.cmpi .ne (IntOp.remsi .vector (BitVec.ofNat 32 n.val)
            (Scalar.select (Scalar.cmpi .eq 4#32 0#32) 1#32 4#32)) 0#32))
        (IntOp.addi (IntOp.remsi .vector (BitVec.ofNat 32 n.val)
          (Scalar.select (Scalar.cmpi .eq 4#32 0#32) 1#32 4#32))
          (Scalar.select (Scalar.cmpi .eq 4#32 0#32) 1#32 4#32))
        (IntOp.remsi .vector (BitVec.ofNat 32 n.val)
          (Scalar.select (Scalar.cmpi .eq 4#32 0#32) 1#32 4#32))) 0#32
      = BitVec.ofBool (decide (n.val % 4 = 0)) := by
  decide +kernel

/-- The four rotations of the lanes that lead a group add up to the group's largest magnitude in
    every lane of the group. -/
theorem spread (k : ℕ → ℝ) (j : ℕ) (hj : j < 256) :
    (if j % 4 = 0 then ahead k j else 0)
      + (if (j + 256 - 1) % 256 % 4 = 0 then ahead k ((j + 256 - 1) % 256) else 0)
      + (if (j + 256 - 2) % 256 % 4 = 0 then ahead k ((j + 256 - 2) % 256) else 0)
      + (if (j + 256 - 3) % 256 % 4 = 0 then ahead k ((j + 256 - 3) % 256) else 0) = grp k j := by
  have ha : ahead k (j / 4 * 4) = grp k j := by
    unfold ahead grp
    rw [Nat.mod_eq_of_lt (by omega), Nat.mod_eq_of_lt (by omega), Nat.mod_eq_of_lt (by omega)]
  have hc : j % 4 = 0 ∨ j % 4 = 1 ∨ j % 4 = 2 ∨ j % 4 = 3 := by omega
  rcases hc with h | h | h | h
  · rw [if_pos h, if_neg (by omega), if_neg (by omega), if_neg (by omega), ← ha,
      show j / 4 * 4 = j by omega]; simp
  · rw [if_neg (by omega), if_pos (by omega), if_neg (by omega), if_neg (by omega), ← ha,
      show (j + 256 - 1) % 256 = j / 4 * 4 by omega]; simp
  · rw [if_neg (by omega), if_neg (by omega), if_pos (by omega), if_neg (by omega), ← ha,
      show (j + 256 - 2) % 256 = j / 4 * 4 by omega]; simp
  · rw [if_neg (by omega), if_neg (by omega), if_neg (by omega), if_pos (by omega), ← ha,
      show (j + 256 - 3) % 256 = j / 4 * 4 by omega]; simp

/-- A selected number or zero, as a real number. -/
theorem select_zero (p : Prop) [Decidable p] (a : ℝ) :
    Scalar.select (BitVec.ofBool (decide p)) (a : EReal) 0 = (((if p then a else 0 : ℝ)) : EReal) := by
  by_cases h : p <;> simp [h, Scalar.select]

/-- The kernel's dequantised keys. -/
theorem pay9_reads (k gm : FVec Ideal S2048x256 .f32) (K : ℕ → ℕ → ℝ)
    (hk : Reads k K) (hg : Reads gm (fun s j => ahead (K s) j)) :
    Reads (k0_pay9 (F := Ideal) k gm (iota .tc S2048x256 32 [1] iota_S2048x256_d1_w32) 4#32 (Scalar.cmpi .eq 4#32 0#32) 1#32)
      (fun s j => kd (K s) j) := by
  intro s j
  have l0 := lead_bit j
  have l1 := lead_bit ⟨(j.val + 256 - 1) % 256, Nat.mod_lt _ (by norm_num)⟩
  have l2 := lead_bit ⟨(j.val + 256 - 2) % 256, Nat.mod_lt _ (by norm_num)⟩
  have l3 := lead_bit ⟨(j.val + 256 - 3) % 256, Nat.mod_lt _ (by norm_num)⟩
  pointwise [k0_pay9]
  simp only [hk _ _, hg _ _, l0, l1, l2, l3, select_zero, ← EReal.coe_add, spread (K s) j.val j.isLt]
  rw [ofBits_neg_two, ← EReal.coe_one]
  have hs : (if (0 : EReal) < ((grp (K s) j.val : ℝ) : EReal) then ((grp (K s) j.val : ℝ) : EReal) else ((1 : ℝ) : EReal))
      = ((scl (grp (K s) j.val) : ℝ) : EReal) := by
    unfold scl
    by_cases h : 0 < grp (K s) j.val
    · rw [if_pos h, if_pos (by exact_mod_cast h)]
    · rw [if_neg h, if_neg (by exact_mod_cast h)]
  rw [hs]
  exact coe_deq _ _ (scl_pos _)

end Cert.Attn

end
-- ==== Proof.Heads.lean ====
/- The four heads of one block of columns: the values with their column of ones, the shift of the
   exponents, and the attention output of a chunk of 1024 rows. -/
module

public import proofs.«01_k».proof.Proof.Keys
public import Idealize.ShloMosaic.PureOps.IdealRules

@[expose] public section

set_option maxRecDepth 16384

noncomputable section

namespace Cert.Attn

open Cert.KernelIdeal Cert.KernelIdeal.Gen Idealize.ShloMosaic

/-! ## The values with a column of ones -/

/-- Lanes 0 to 63 hold 64 columns of values, from column `o`, and lane 64 holds ones. -/
def AugLo (f : (⟨2, ![2048, 128]⟩ : Shape).Idx → EReal) (V : ℕ → ℕ → ℝ) (o : ℕ) : Prop :=
  (∀ (t : Fin 2048) (d : Fin 128), d.val < 64 → f (ix2 t d) = ((V t.val (o + d.val) : ℝ) : EReal))
    ∧ ∀ t : Fin 2048, f (ix2 t 64) = ((1 : ℝ) : EReal)

/-- Lanes 64 to 127 hold 64 columns of values, from column `o + 64`, and lane 0 holds ones. -/
def AugHi (f : (⟨2, ![2048, 128]⟩ : Shape).Idx → EReal) (V : ℕ → ℕ → ℝ) (o : ℕ) : Prop :=
  (∀ (t : Fin 2048) (d : Fin 128), 64 ≤ d.val → f (ix2 t d) = ((V t.val (o + d.val) : ℝ) : EReal))
    ∧ ∀ t : Fin 2048, f (ix2 t 0) = ((1 : ℝ) : EReal)

/-- Whether a lane lies in the first half of a pair, as a bit. -/
theorem slt_bit : ∀ d : Fin 128, IntOp.cmpi .slt (BitVec.ofNat 32 d.val) 64#32 = BitVec.ofBool (decide (d.val < 64)) := by
  decide +kernel

/-- Whether a lane lies in the second half of a pair, as a bit. -/
theorem sge_bit : ∀ d : Fin 128, IntOp.cmpi .sge (BitVec.ofNat 32 d.val) 64#32 = BitVec.ofBool (decide (64 ≤ d.val)) := by
  decide +kernel

/-- The values of a grid point's first head, with a column of ones. -/
theorem pay15_aug (v : FVec Ideal S2048x256 .f32) (V : ℕ → ℕ → ℝ) (hv : Reads v V) :
    AugLo (k0_pay15 (F := Ideal) (k0_pay13 v) (iota .tc S2048x128 32 [1] iota_S2048x128_d1_w32) k0_pay14 64#32) V 0 := by
  constructor
  · intro t d hd
    pointwise [k0_pay15, k0_pay13, k0_pay14]
    rw [slt_bit]
    simp [hd, Scalar.select, hv _ _]
  · intro t
    pointwise [k0_pay15, k0_pay13, k0_pay14]
    simp [IntOp.cmpi, Scalar.select]

/-- The values of a grid point's second head, with a column of ones. -/
theorem pay16_aug (v : FVec Ideal S2048x256 .f32) (V : ℕ → ℕ → ℝ) (hv : Reads v V) : AugHi (k0_pay16 (F := Ideal) v) V 0 := by
  constructor
  · intro t d hd
    pointwise [k0_pay16]
    rw [sge_bit]
    simp [hd, Scalar.select, hv _ _]
  · intro t
    pointwise [k0_pay16]
    simp [IntOp.cmpi, Scalar.select]

/-- The values of a grid point's third head, with a column of ones. -/
theorem pay17_aug (v : FVec Ideal S2048x256 .f32) (V : ℕ → ℕ → ℝ) (hv : Reads v V) : AugLo (k0_pay17 (F := Ideal) v) V 128 := by
  constructor
  · intro t d hd
    pointwise [k0_pay17]
    rw [slt_bit]
    simp [hd, Scalar.select, hv _ _]
  · intro t
    pointwise [k0_pay17]
    simp [IntOp.cmpi, Scalar.select]

/-- The values of a grid point's fourth head, with a column of ones. -/
theorem pay18_aug (v : FVec Ideal S2048x256 .f32) (V : ℕ → ℕ → ℝ) (hv : Reads v V) : AugHi (k0_pay18 (F := Ideal) v) V 128 := by
  constructor
  · intro t d hd
    pointwise [k0_pay18]
    rw [sge_bit]
    simp [hd, Scalar.select, hv _ _]
  · intro t
    pointwise [k0_pay18]
    simp [IntOp.cmpi, Scalar.select]

/-! ## The scaled queries and the shift of the exponents -/

/-- The factor the kernel scales its queries by: an eighth, in units of `log 2`. -/
def unit8 : ℝ := (1 / 8) * (Real.log 2)⁻¹

/-- The named constant denotes an eighth over the logarithm of two. -/
theorem named_unit8 : (Named.named κ "scale" 0x3E38AA3B#32 : Ideal .f32) = ((unit8 : ℝ) : EReal) :=
  IdealRules.named_const.ideal_named_scalar _ _ _ _ rfl

/-- The scaled queries of the first 1024 rows. -/
theorem pay21_reads (b : FVec Ideal S1x256 .f32) (x : FVec Ideal S2048x768 .bf16) (w : FVec Ideal S768x256 .bf16)
    (X W : ℕ → ℕ → ℝ) (B : ℕ → ℝ) (hx : Reads x X) (hw : Reads w W) (hb : ∀ j : Fin 256, b (ix2 0 j) = ((B j.val : ℝ) : EReal)) :
    Reads (k0_pay21 (F := Ideal) b x w) (fun s j => ((∑ i : Fin 768, X s i.val * W i.val j) + B j) * unit8) := by
  intro s j
  pointwise [k0_pay21]
  simp only [hx _ _, hw _ _, hb, named_unit8]
  rw [coe_affine, ← EReal.coe_mul]

/-- The scaled queries of the last 1024 rows. -/
theorem pay28_reads (b : FVec Ideal S1x256 .f32) (x : FVec Ideal S2048x768 .bf16) (w : FVec Ideal S768x256 .bf16)
    (X W : ℕ → ℕ → ℝ) (B : ℕ → ℝ) (hx : Reads x X) (hw : Reads w W) (hb : ∀ j : Fin 256, b (ix2 0 j) = ((B j.val : ℝ) : EReal)) :
    Reads (k0_pay28 (F := Ideal) b x w) (fun s j => ((∑ i : Fin 768, X (1024 + s) i.val * W i.val j) + B j) * unit8) := by
  intro s j
  pointwise [k0_pay28]
  simp only [hx _ _, hw _ _, hb, named_unit8]
  rw [coe_affine, ← EReal.coe_mul]

/-- A matrix all of whose elements are real numbers. -/
def Finite {m n : ℕ} (f : (⟨2, ![m, n]⟩ : Shape).Idx → EReal) : Prop := ∃ r, Reads f r

/-- A matrix is real where each of its elements is. -/
theorem finite_of {m n : ℕ} (f : (⟨2, ![m, n]⟩ : Shape).Idx → EReal)
    (h : ∀ (a : Fin m) (b : Fin n), ∃ r : ℝ, f (ix2 a b) = (r : EReal)) : Finite f := by
  choose r hr using h
  refine ⟨fun a b => if h : a < m ∧ b < n then r ⟨a, h.1⟩ ⟨b, h.2⟩ else 0, fun a b => ?_⟩
  simp [hr]

/-- The column maxima of real keys' magnitudes are real. -/
theorem pay19_finite (k : FVec Ideal S2048x256 .f32) (K : ℕ → ℕ → ℝ) (hk : Reads k K) : Finite (k0_pay19 (F := Ideal) k) := by
  refine finite_of _ fun a b => ?_
  pointwise [k0_pay19]
  rw [ofBits_bot]
  simp only [Ideal.absf_def, hk _ _, coe_abs]
  exact fold_max_real _

/-- A bit chooses between two real numbers. -/
theorem select_real (c : BitVec 1) {a b : EReal} (ha : ∃ r : ℝ, a = (r : EReal)) (hb : ∃ r : ℝ, b = (r : EReal)) :
    ∃ r : ℝ, Scalar.select c a b = (r : EReal) := by
  unfold Scalar.select
  split <;> assumption

/-- The matrix that places each head's column maxima is real. -/
theorem pay20_finite (c : FVec Ideal S256x256 .f32) (hc : Finite c) : Finite (k0_pay20 (F := Ideal) c) := by
  obtain ⟨C, hC⟩ := hc
  refine finite_of _ fun a b => ?_
  pointwise [k0_pay20]
  exact select_real _ ⟨_, hC _ _⟩ ⟨0, rfl⟩

/-- The bounds of the scores of the first rows are real. -/
theorem pay23_finite (b : FVec Ideal S1x256 .f32) (x : FVec Ideal S2048x768 .bf16) (w : FVec Ideal S768x256 .bf16)
    (c : FVec Ideal S256x256 .f32) (Q : ℕ → ℕ → ℝ) (hq : Reads (k0_pay21 (F := Ideal) b x w) Q) (hc : Finite c) :
    Finite (k0_pay23 (F := Ideal) b x w c) := by
  obtain ⟨D, hD⟩ := pay20_finite c hc
  refine finite_of _ fun a b => ?_
  pointwise [k0_pay23]
  simp only [Ideal.absf_def, hq _ _, hD _ _, coe_abs, ← EReal.coe_mul]
  exact ⟨_, coe_sum _⟩

/-- The bounds of the scores of the last rows are real. -/
theorem pay30_finite (b : FVec Ideal S1x256 .f32) (x : FVec Ideal S2048x768 .bf16) (w : FVec Ideal S768x256 .bf16)
    (d : FVec Ideal S256x256 .f32) (Q : ℕ → ℕ → ℝ) (hq : Reads (k0_pay28 (F := Ideal) b x w) Q) (hd : Finite d) :
    Finite (k0_pay30 (F := Ideal) b x w d) := by
  obtain ⟨D, hD⟩ := hd
  refine finite_of _ fun a b => ?_
  pointwise [k0_pay30]
  simp only [Ideal.absf_def, hq _ _, hD _ _, coe_abs, ← EReal.coe_mul]
  exact ⟨_, coe_sum _⟩

/-! ## One chunk of rows -/

/-- The attention output at row `s`, lane `j`, of queries `q`, dequantised keys `k` and values `v`. -/
def hout (q k v : ℕ → ℕ → ℝ) (s j : ℕ) : ℝ :=
  (∑ t : Fin 2048, Real.exp ((∑ d : Fin 64, q s (j / 64 * 64 + d.val) * k t.val (j / 64 * 64 + d.val)) / 8) * v t.val j)
    / ∑ t : Fin 2048, Real.exp ((∑ d : Fin 64, q s (j / 64 * 64 + d.val) * k t.val (j / 64 * 64 + d.val)) / 8)

/-- One output of one head, from the rows and columns it reads. -/
theorem head_at (qs : Fin 64 → EReal) (ks : Fin 2048 → Fin 64 → EReal) (ms : EReal) (vs one : Fin 2048 → EReal)
    (q : Fin 64 → ℝ) (k : Fin 2048 → Fin 64 → ℝ) (v : Fin 2048 → ℝ) (m : ℝ)
    (hq : ∀ d, qs d = ((q d * unit8 : ℝ) : EReal)) (hk : ∀ t d, ks t d = ((k t d : ℝ) : EReal)) (hm : ms = ((m : ℝ) : EReal))
    (hv : ∀ t, vs t = ((v t : ℝ) : EReal)) (h1 : ∀ t, one t = ((1 : ℝ) : EReal)) :
    Ideal.div (∑ t, Ideal.exp2 ((∑ d, qs d * ks t d) - ms) * vs t) (∑ t, Ideal.exp2 ((∑ d, qs d * ks t d) - ms) * one t)
      = (((∑ t : Fin 2048, Real.exp ((∑ d, q d * k t d) / 8) * v t)
        / ∑ t : Fin 2048, Real.exp ((∑ d, q d * k t d) / 8) : ℝ) : EReal) := by
  simp only [hq, hk, hm, hv, h1]
  exact head_kernel q k v m

/-- The shifted scores of the block's first head. -/
def scores0 (q : FVec Ideal S1024x256 .bf16) (k : FVec Ideal S2048x256 .bf16) (mm : FVec Ideal S1024x256 .f32) :
    FVec Ideal S1024x2048 .f32 :=
  subf
    (matmul dot_S1024x64_S2048x64_S1024x2048_1_1_0_0_n_n none
      (extractStridedSlice S1024x64 ![0, 0] q slices_S1024x256_o0_0_S1024x64)
      (extractStridedSlice S2048x64 ![0, 0] k slices_S2048x256_o0_0_S2048x64) (constant S1024x2048 .f32 0x00000000#32))
    (broadcastTo S1024x2048 (extractStridedSlice S1024x1 ![0, 0] mm slices_S1024x256_o0_0_S1024x1) broadcasts_S1024x1_S1024x2048)

/-- The first chunk's shifted scores are those. -/
theorem pay24_eq (b : FVec Ideal S1x256 .f32) (x : FVec Ideal S2048x768 .bf16) (k : FVec Ideal S2048x256 .bf16)
    (w : FVec Ideal S768x256 .bf16) (c : FVec Ideal S256x256 .f32) :
    k0_pay24 b x k w c = scores0 (k0_pay22 b x w) k (k0_pay23 b x w c) := rfl

/-- The four heads' outputs of a chunk. -/
theorem pay25_reads (k : FVec Ideal S2048x256 .bf16) (v81 v92 v103 v114 : FVec Ideal S2048x128 .bf16)
    (q : FVec Ideal S1024x256 .bf16) (mm : FVec Ideal S1024x256 .f32) (Q K V : ℕ → ℕ → ℝ)
    (hq : Reads q (fun s j => Q s j * unit8)) (hk : Reads k K) (hm : Finite mm)
    (h0 : AugLo v81 V 0) (h1 : AugHi v92 V 0) (h2 : AugLo v103 V 128) (h3 : AugHi v114 V 128) :
    Reads (k0_pay25 (F := Ideal) k v81 v92 v103 v114 q mm (scores0 q k mm)) (hout Q K V) := by
  obtain ⟨M, hM⟩ := hm
  intro s j
  have hj := j.isLt
  pointwise [k0_pay25, scores0]
  unfold hout
  split
  · rename_i h
    have e : j.val / 64 * 64 = 0 := by omega
    simp only [e, Nat.zero_add]
    refine head_at _ _ _ _ _ (fun d => Q s.val d.val) (fun t d => K t.val d.val) (fun t => V t.val j.val) _
      (fun d => hq _ _) (fun t d => hk _ _) (hM _ _) (fun t => ?_) (fun t => h0.2 t)
    rw [h0.1 _ _ h]; simp
  split
  · rename_i h h'
    have e : j.val / 64 * 64 = 64 := by omega
    simp only [e]
    refine head_at _ _ _ _ _ (fun d => Q s.val (64 + d.val)) (fun t d => K t.val (64 + d.val)) (fun t => V t.val j.val) _
      (fun d => hq _ _) (fun t d => hk _ _) (hM _ _) (fun t => ?_) (fun t => h1.2 t)
    rw [h1.1 _ _ (Nat.le_add_right _ _)]
    congr 2
    show 0 + (64 + (j.val - 64)) = j.val
    omega
  split
  · rename_i h h' h''
    have e : j.val / 64 * 64 = 128 := by omega
    simp only [e]
    refine head_at _ _ _ _ _ (fun d => Q s.val (128 + d.val)) (fun t d => K t.val (128 + d.val)) (fun t => V t.val j.val) _
      (fun d => hq _ _) (fun t d => hk _ _) (hM _ _) (fun t => ?_) (fun t => h2.2 t)
    rw [h2.1 _ _ h'']
    congr 2
    show 128 + (j.val - 64 - 64) = j.val
    omega
  · rename_i h h' h''
    have e : j.val / 64 * 64 = 192 := by omega
    simp only [e]
    refine head_at _ _ _ _ _ (fun d => Q s.val (192 + d.val)) (fun t d => K t.val (192 + d.val)) (fun t => V t.val j.val) _
      (fun d => hq _ _) (fun t d => hk _ _) (hM _ _) (fun t => ?_) (fun t => h3.2 t)
    rw [h3.1 _ _ (Nat.le_add_right _ _)]
    congr 2
    show 128 + (64 + (j.val - 64 - 64 - 64)) = j.val
    omega

/-- A chunk's output rows: what they held, plus the attention output times the block of the second
    projection. -/
theorem pay27_at (w : FVec Ideal S256x768 .bf16) (o : FVec Ideal S1024x256 .bf16) (acc : FVec Ideal S1024x768 .f32)
    (A : ℕ → ℕ → ℝ) (ho : Reads o A) (s : Fin 1024) (e : Fin 768) :
    k0_pay27 w o (k0_pay26 acc) (constant S1024x768 .f32 0x00000000#32) (ix2 s e)
      = acc (ix2 s e) + ∑ j : Fin 256, ((A s.val j.val : ℝ) : EReal) * w (ix2 j e) := by
  pointwise [k0_pay27, k0_pay26]
  simp only [ho _ _]

/-- The second chunk stores the same function of its queries as the first. -/
theorem pay1_eq (b : FVec Ideal S1x256 .f32) (x : FVec Ideal S2048x768 .bf16) (k : FVec Ideal S2048x256 .bf16)
    (w : FVec Ideal S768x256 .bf16) (wp : FVec Ideal S256x768 .bf16) (d : FVec Ideal S256x256 .f32)
    (v81 v92 v103 v114 : FVec Ideal S2048x128 .bf16) (acc : FVec Ideal S1024x768 .f32) :
    k0_pay1 k wp v114 (k0_pay29 b x w) (k0_pay30 b x w d) (k0_pay31 b x k w v81 d) (k0_pay32 b x k w v92 d)
        (k0_pay33 b x k w v103 d) (k0_pay34 b x k w v103 d) acc
      = k0_pay27 wp
          (k0_pay25 k v81 v92 v103 v114 (k0_pay29 b x w) (k0_pay30 b x w d) (scores0 (k0_pay29 b x w) k (k0_pay30 b x w d)))
          (k0_pay26 acc) (constant S1024x768 .f32 0x00000000#32) := rfl

end Cert.Attn

end
-- ==== Proof.Block.lean ====
/- What one grid point leaves in the output block, element by element. -/
module

public import proofs.«01_k».proof.Proof.Heads
public import proofs.«01_k».proof.Proof.Gen.KernelIdeal.Frame
public import Idealize.ShloMosaic.Lib.Pipeline.Value

@[expose] public section

set_option maxRecDepth 16384

noncomputable section

namespace Cert.Attn

open Cert.KernelIdeal Cert.KernelIdeal.Gen Idealize.ShloMosaic Idealize.ShloMosaic.TcCoe Idealize.SL.Sem

/-- A projection of a block of columns. -/
def lin (X W : ℕ → ℕ → ℝ) (B : ℕ → ℝ) (s j : ℕ) : ℝ := (∑ i : Fin 768, X s i.val * W i.val j) + B j

/-- The blocks a grid point reads hold the real numbers of one group of heads. -/
structure Blocks (x0 : FVec Ideal S2048x768 .f32) (x1 x2 x3 : FVec Ideal S768x256 .f32) (x4 x5 x6 : FVec Ideal S1x1x256 .f32)
    (Q K V : ℕ → ℕ → ℝ) : Prop where
  ex : ∃ (X Wq Wk Wv : ℕ → ℕ → ℝ) (Bq Bk Bv : ℕ → ℝ), Reads x0 X ∧ Reads x1 Wq ∧ Reads x2 Wk ∧ Reads x3 Wv
    ∧ (∀ j : Fin 256, x4 (ix3 0 0 j) = ((Bq j.val : ℝ) : EReal)) ∧ (∀ j : Fin 256, x5 (ix3 0 0 j) = ((Bk j.val : ℝ) : EReal))
    ∧ (∀ j : Fin 256, x6 (ix3 0 0 j) = ((Bv j.val : ℝ) : EReal)) ∧ Q = lin X Wq Bq ∧ K = lin X Wk Bk ∧ V = lin X Wv Bv

/-- The first chunk's store adds the group's share of the output projection to the rows it found. -/
theorem first_at (x0 : FVec Ideal S2048x768 .f32) (x1 x2 x3 : FVec Ideal S768x256 .f32) (x4 x5 x6 : FVec Ideal S1x1x256 .f32) (x7 : FVec Ideal S256x768 .f32)
    (acc : FVec Ideal S1024x768 .f32) (Q K V : ℕ → ℕ → ℝ) (h : Blocks x0 x1 x2 x3 x4 x5 x6 Q K V) (s : Fin 1024) (e : Fin 768) :
    k0_pay27 (F := Ideal) (k0_pay12 x7)
    (k0_pay25 (k0_pay10 (F := Ideal) (k0_pay6 x0 x2 x5) (k0_pay8 x0 x2 x5) (iota .tc S2048x256 32 [1] iota_S2048x256_d1_w32) 4#32 0#1 1#32)
      (k0_pay15 (k0_pay13 (k0_pay7 x0 x3 x6)) (iota .tc S2048x128 32 [1] iota_S2048x128_d1_w32) k0_pay14 64#32) (k0_pay16 (k0_pay7 x0 x3 x6)) (k0_pay17 (k0_pay7 x0 x3 x6))
      (k0_pay18 (k0_pay7 x0 x3 x6)) (k0_pay22 (k0_pay4 x4) (k0_pay5 x0) (k0_pay11 x1))
      (k0_pay23 (k0_pay4 x4) (k0_pay5 x0) (k0_pay11 x1) (k0_pay19 (k0_pay9 (F := Ideal) (k0_pay6 x0 x2 x5) (k0_pay8 x0 x2 x5) (iota .tc S2048x256 32 [1] iota_S2048x256_d1_w32) 4#32 0#1 1#32)))
      (k0_pay24 (k0_pay4 x4) (k0_pay5 x0) (k0_pay10 (F := Ideal) (k0_pay6 x0 x2 x5) (k0_pay8 x0 x2 x5) (iota .tc S2048x256 32 [1] iota_S2048x256_d1_w32) 4#32 0#1 1#32) (k0_pay11 x1)
        (k0_pay19 (k0_pay9 (F := Ideal) (k0_pay6 x0 x2 x5) (k0_pay8 x0 x2 x5) (iota .tc S2048x256 32 [1] iota_S2048x256_d1_w32) 4#32 0#1 1#32))))
    (k0_pay26 acc) (constant S1024x768 .f32 0x00000000#32) (ix2 s e)
      = acc (ix2 s e) + ∑ j : Fin 256, ((hout Q (fun t j => kd (K t) j) V s.val j.val : ℝ) : EReal) * x7 (ix2 j e) := by
  obtain ⟨X, Wq, Wk, Wv, Bq, Bk, Bv, hx, hq, hk, hv, h4, h5, h6, rfl, rfl, rfl⟩ := h.ex
  have k6 := pay6_reads x0 x2 x5 X Wk Bk hx hk h5
  have k9 := pay9_reads _ _ _ k6 (pay8_reads x0 x2 x5 _ k6)
  have v7 := pay7_reads x0 x3 x6 X Wv Bv hx hv h6
  have hb : ∀ j : Fin 256, k0_pay4 (F := Ideal) x4 (ix2 0 j) = ((Bq j.val : ℝ) : EReal) := fun j => by
    pointwise [k0_pay4]; exact h4 j
  have hx5 : Reads (k0_pay5 (F := Ideal) x0) X := fun a b => by pointwise [k0_pay5, k0_pay3]; exact hx a b
  have hq11 : Reads (k0_pay11 (F := Ideal) x1) Wq := fun a b => by pointwise [k0_pay11]; exact hq a b
  have q21 := pay21_reads _ _ _ X Wq Bq hx5 hq11 hb
  have o := pay25_reads (k0_pay10 (F := Ideal) (k0_pay6 x0 x2 x5) (k0_pay8 x0 x2 x5) (iota .tc S2048x256 32 [1] iota_S2048x256_d1_w32) 4#32 0#1 1#32) _ _ _ _ (k0_pay22 (k0_pay4 x4) (k0_pay5 x0) (k0_pay11 x1)) (k0_pay23 (k0_pay4 x4) (k0_pay5 x0) (k0_pay11 x1) (k0_pay19 (k0_pay9 (F := Ideal) (k0_pay6 x0 x2 x5) (k0_pay8 x0 x2 x5) (iota .tc S2048x256 32 [1] iota_S2048x256_d1_w32) 4#32 0#1 1#32)))
    (lin X Wq Bq) (fun t j => kd (lin X Wk Bk t) j) (lin X Wv Bv) q21 k9
    (pay23_finite _ _ _ _ _ q21 (pay19_finite _ _ k9)) (pay15_aug _ _ v7) (pay16_aug _ _ v7) (pay17_aug _ _ v7) (pay18_aug _ _ v7)
  exact pay27_at (k0_pay12 x7) _ acc _ o s e

/-- The second chunk's store does the same for the last 1024 rows. -/
theorem second_at (x0 : FVec Ideal S2048x768 .f32) (x1 x2 x3 : FVec Ideal S768x256 .f32) (x4 x5 x6 : FVec Ideal S1x1x256 .f32) (x7 : FVec Ideal S256x768 .f32)
    (acc : FVec Ideal S1024x768 .f32) (Q K V : ℕ → ℕ → ℝ) (h : Blocks x0 x1 x2 x3 x4 x5 x6 Q K V) (s : Fin 1024) (e : Fin 768) :
    k0_pay1 (F := Ideal) (k0_pay10 (F := Ideal) (k0_pay6 x0 x2 x5) (k0_pay8 x0 x2 x5) (iota .tc S2048x256 32 [1] iota_S2048x256_d1_w32) 4#32 0#1 1#32)
    (k0_pay12 x7) (k0_pay18 (k0_pay7 x0 x3 x6)) (k0_pay29 (k0_pay4 x4) (k0_pay5 x0) (k0_pay11 x1))
    (k0_pay30 (k0_pay4 x4) (k0_pay5 x0) (k0_pay11 x1) (k0_pay20 (k0_pay19 (k0_pay9 (F := Ideal) (k0_pay6 x0 x2 x5) (k0_pay8 x0 x2 x5) (iota .tc S2048x256 32 [1] iota_S2048x256_d1_w32) 4#32 0#1 1#32))))
    (k0_pay31 (k0_pay4 x4) (k0_pay5 x0) (k0_pay10 (F := Ideal) (k0_pay6 x0 x2 x5) (k0_pay8 x0 x2 x5) (iota .tc S2048x256 32 [1] iota_S2048x256_d1_w32) 4#32 0#1 1#32) (k0_pay11 x1)
      (k0_pay15 (k0_pay13 (k0_pay7 x0 x3 x6)) (iota .tc S2048x128 32 [1] iota_S2048x128_d1_w32) k0_pay14 64#32) (k0_pay20 (k0_pay19 (k0_pay9 (F := Ideal) (k0_pay6 x0 x2 x5) (k0_pay8 x0 x2 x5) (iota .tc S2048x256 32 [1] iota_S2048x256_d1_w32) 4#32 0#1 1#32))))
    (k0_pay32 (k0_pay4 x4) (k0_pay5 x0) (k0_pay10 (F := Ideal) (k0_pay6 x0 x2 x5) (k0_pay8 x0 x2 x5) (iota .tc S2048x256 32 [1] iota_S2048x256_d1_w32) 4#32 0#1 1#32) (k0_pay11 x1) (k0_pay16 (k0_pay7 x0 x3 x6)) (k0_pay20 (k0_pay19 (k0_pay9 (F := Ideal) (k0_pay6 x0 x2 x5) (k0_pay8 x0 x2 x5) (iota .tc S2048x256 32 [1] iota_S2048x256_d1_w32) 4#32 0#1 1#32))))
    (k0_pay33 (k0_pay4 x4) (k0_pay5 x0) (k0_pay10 (F := Ideal) (k0_pay6 x0 x2 x5) (k0_pay8 x0 x2 x5) (iota .tc S2048x256 32 [1] iota_S2048x256_d1_w32) 4#32 0#1 1#32) (k0_pay11 x1) (k0_pay17 (k0_pay7 x0 x3 x6)) (k0_pay20 (k0_pay19 (k0_pay9 (F := Ideal) (k0_pay6 x0 x2 x5) (k0_pay8 x0 x2 x5) (iota .tc S2048x256 32 [1] iota_S2048x256_d1_w32) 4#32 0#1 1#32))))
    (k0_pay34 (k0_pay4 x4) (k0_pay5 x0) (k0_pay10 (F := Ideal) (k0_pay6 x0 x2 x5) (k0_pay8 x0 x2 x5) (iota .tc S2048x256 32 [1] iota_S2048x256_d1_w32) 4#32 0#1 1#32) (k0_pay11 x1) (k0_pay17 (k0_pay7 x0 x3 x6)) (k0_pay20 (k0_pay19 (k0_pay9 (F := Ideal) (k0_pay6 x0 x2 x5) (k0_pay8 x0 x2 x5) (iota .tc S2048x256 32 [1] iota_S2048x256_d1_w32) 4#32 0#1 1#32))))
    acc (ix2 s e)
      = acc (ix2 s e) + ∑ j : Fin 256, ((hout Q (fun t j => kd (K t) j) V (1024 + s.val) j.val : ℝ) : EReal) * x7 (ix2 j e) := by
  obtain ⟨X, Wq, Wk, Wv, Bq, Bk, Bv, hx, hq, hk, hv, h4, h5, h6, rfl, rfl, rfl⟩ := h.ex
  have k6 := pay6_reads x0 x2 x5 X Wk Bk hx hk h5
  have k9 := pay9_reads _ _ _ k6 (pay8_reads x0 x2 x5 _ k6)
  have v7 := pay7_reads x0 x3 x6 X Wv Bv hx hv h6
  have hb : ∀ j : Fin 256, k0_pay4 (F := Ideal) x4 (ix2 0 j) = ((Bq j.val : ℝ) : EReal) := fun j => by
    pointwise [k0_pay4]; exact h4 j
  have hx5 : Reads (k0_pay5 (F := Ideal) x0) X := fun a b => by pointwise [k0_pay5, k0_pay3]; exact hx a b
  have hq11 : Reads (k0_pay11 (F := Ideal) x1) Wq := fun a b => by pointwise [k0_pay11]; exact hq a b
  have q28 := pay28_reads _ _ _ X Wq Bq hx5 hq11 hb
  have o := pay25_reads (k0_pay10 (F := Ideal) (k0_pay6 x0 x2 x5) (k0_pay8 x0 x2 x5) (iota .tc S2048x256 32 [1] iota_S2048x256_d1_w32) 4#32 0#1 1#32) _ _ _ _ (k0_pay29 (k0_pay4 x4) (k0_pay5 x0) (k0_pay11 x1)) (k0_pay30 (k0_pay4 x4) (k0_pay5 x0) (k0_pay11 x1) (k0_pay20 (k0_pay19 (k0_pay9 (F := Ideal) (k0_pay6 x0 x2 x5) (k0_pay8 x0 x2 x5) (iota .tc S2048x256 32 [1] iota_S2048x256_d1_w32) 4#32 0#1 1#32))))
    (fun s j => lin X Wq Bq (1024 + s) j) (fun t j => kd (lin X Wk Bk t) j) (lin X Wv Bv) q28 k9
    (pay30_finite _ _ _ _ _ q28 (pay20_finite _ (pay19_finite _ _ k9))) (pay15_aug _ _ v7) (pay16_aug _ _ v7) (pay17_aug _ _ v7) (pay18_aug _ _ v7)
  rw [pay1_eq]
  exact pay27_at (k0_pay12 x7) _ acc _ o s e

/-- The zero offset of a matrix. -/
theorem zero2 : (![0, 0] : Fin 2 → Nat) = fun _ => 0 := funext fun a => by fin_cases a <;> rfl
/-- The zero offset of an array of rank 3. -/
theorem zero3 : (![0, 0, 0] : Fin 3 → Nat) = fun _ => 0 := funext fun a => by fin_cases a <;> rfl

/-- An entry of the upper half of the rows, in the whole block. -/
theorem emb_lo (s : Fin 1024) (e : Fin 768) : (Rect.unit (s := S2048x768) ![0, 0] ![1024, 768] inb_S2048x768_S1024x768_0_0).emb (ix2 s e)
    = (ix2 ⟨s.val, by omega⟩ e : S2048x768.Idx) := by
  funext a
  fin_cases a
  · apply Fin.ext; show 0 + 1 * s.val = s.val; omega
  · apply Fin.ext; show 0 + 1 * e.val = e.val; omega

/-- An entry of the lower half of the rows, in the whole block. -/
theorem emb_hi (s : Fin 1024) (e : Fin 768) : (Rect.unit (s := S2048x768) ![1024, 0] ![1024, 768] inb_S2048x768_S1024x768_1024_0).emb (ix2 s e)
    = (ix2 ⟨1024 + s.val, by omega⟩ e : S2048x768.Idx) := by
  funext a
  fin_cases a
  · apply Fin.ext; show 1024 + 1 * s.val = 1024 + s.val; omega
  · apply Fin.ext; show 0 + 1 * e.val = e.val; omega

/-- Two stores of 1024 rows each, read at an index: each adds the same function `G` to the rows it found. -/
theorem canon_two (lo hi : FVec Ideal S1024x768 .f32) (L : List (View.Piece (Elt Ideal) S2048x768 .f32)) (G : Fin 2048 → Fin 768 → EReal)
    (hlo : ∀ (s : Fin 1024) (e : Fin 768), lo (ix2 s e) = G ⟨s.val, by omega⟩ e)
    (hhi : ∀ (s : Fin 1024) (e : Fin 768), hi (ix2 s e) = G ⟨1024 + s.val, by omega⟩ e) (s : Fin 2048) (e : Fin 768) :
    View.canon (Val := Elt Ideal) (s := S2048x768) (e := .f32) (⟨Rect.unit ![1024, 0] ![1024, 768] inb_S2048x768_S1024x768_1024_0, hi⟩
      :: ⟨Rect.unit ![0, 0] ![1024, 768] inb_S2048x768_S1024x768_0_0, lo⟩ :: L) (ix2 s e) = G s e := by
  by_cases hs : s.val < 1024
  · rw [View.canon_cons_of_not_mem _ _ (by
      rw [Rect.mem_set_unit]
      intro h
      have := (h 0).1
      simp at this
      omega)]
    have e1 : (ix2 s e : S2048x768.Idx) = (Rect.unit (s := S2048x768) ![0, 0] ![1024, 768] inb_S2048x768_S1024x768_0_0).emb (ix2 ⟨s.val, hs⟩ e) := (emb_lo ⟨s.val, hs⟩ e).symm
    rw [e1]
    rw [View.canon_cons_emb, hlo]
  · have e1 : (ix2 s e : S2048x768.Idx) = (Rect.unit (s := S2048x768) ![1024, 0] ![1024, 768] inb_S2048x768_S1024x768_1024_0).emb (ix2 ⟨s.val - 1024, by omega⟩ e) := by
      rw [emb_hi]; congr 1; apply Fin.ext; show s.val = 1024 + (s.val - 1024); omega
    rw [e1]
    rw [View.canon_cons_emb, hhi]
    congr 1
    apply Fin.ext
    simp
    omega

/-- The bias row, one copy for every row. -/
theorem bias_at (x8 : FVec Ideal S1x768 .f32) (s : Fin 2048) (e : Fin 768) : k0_pay2 (F := Ideal) x8 (ix2 s e) = x8 (ix2 0 e) := by
  pointwise [k0_pay2]

/-- After one store of the whole block, the first rows read back as stored. -/
theorem init_lo (v : View sig .tc .vmem S2048x768 .f32) (f : FVec Ideal S2048x768 .f32) (s : Fin 1024) (e : Fin 768) :
    v.readCov (Val := Elt Ideal) [⟨Rect.unit ![0, 0] ![2048, 768] inb_S2048x768_S2048x768_0_0, f⟩]
      (Rect.unit (s := S2048x768) ![0, 0] ![1024, 768] inb_S2048x768_S1024x768_0_0).toLoadRect (ix2 s e) = f (ix2 ⟨s.val, by omega⟩ e) := by
  rw [View.readCov_eq_canon_ld v _ _ (fun y => ⟨_, List.mem_singleton_self _, by
    rw [Rect.mem_set_unit]; intro a
    fin_cases a
    · exact ⟨Nat.zero_le _, lt_of_lt_of_eq (y 0).isLt rfl⟩
    · exact ⟨Nat.zero_le _, lt_of_lt_of_eq (y 1).isLt rfl⟩⟩)]
  rw [View.canon_cons_unit_zero (S := S2048x768) zero2]
  exact congrArg f (emb_lo s e)

/-- After a store of the whole block and one of its first rows, the last rows read back as the first store left them. -/
theorem init_hi (v : View sig .tc .vmem S2048x768 .f32) (f : FVec Ideal S2048x768 .f32) (w : FVec Ideal S1024x768 .f32)
    (s : Fin 1024) (e : Fin 768) :
    v.readCov (Val := Elt Ideal) [⟨Rect.unit ![0, 0] ![1024, 768] inb_S2048x768_S1024x768_0_0, w⟩,
        ⟨Rect.unit ![0, 0] ![2048, 768] inb_S2048x768_S2048x768_0_0, f⟩]
      (Rect.unit (s := S2048x768) ![1024, 0] ![1024, 768] inb_S2048x768_S1024x768_1024_0).toLoadRect (ix2 s e) = f (ix2 ⟨1024 + s.val, by omega⟩ e) := by
  rw [View.readCov_eq_canon_ld v _ _ (fun y => ⟨_, List.mem_cons_of_mem _ (List.mem_singleton_self _), by
    rw [Rect.mem_set_unit]; intro a
    fin_cases a
    · exact ⟨Nat.zero_le _, lt_of_lt_of_eq (y 0).isLt rfl⟩
    · exact ⟨Nat.zero_le _, lt_of_lt_of_eq (y 1).isLt rfl⟩⟩)]
  show View.canon (Val := Elt Ideal) (s := S2048x768) (e := .f32) _ ((Rect.unit (s := S2048x768) ![1024, 0] ![1024, 768] inb_S2048x768_S1024x768_1024_0).emb (ix2 s e)) = _
  rw [emb_hi]
  rw [View.canon_cons_of_not_mem _ _ (by
    rw [Rect.mem_set_unit]
    intro h
    have := (h 0).2
    change 1024 + s.val < 0 + 1024 at this
    omega)]
  rw [View.canon_cons_unit_zero (S := S2048x768) zero2]

/-- A later point adds its group's share to what the points before left. -/
theorem out_B_at (c : Dev nD) (i : grid0.Coords) (a1 : Memref sig .tc .vmem S2048x768 .f32) (h1 : a1.IsWhole) (a2 : Memref sig .tc .vmem S768x256 .f32) (h2 : a2.IsWhole) (a3 : Memref sig .tc .vmem S768x256 .f32) (h3 : a3.IsWhole) (a4 : Memref sig .tc .vmem S768x256 .f32) (h4 : a4.IsWhole) (a5 : Memref sig .tc .vmem S1x1x256 .f32) (h5 : a5.IsWhole) (a6 : Memref sig .tc .vmem S1x1x256 .f32) (h6 : a6.IsWhole)
    (a7 : Memref sig .tc .vmem S1x1x256 .f32) (h7 : a7.IsWhole) (a8 : Memref sig .tc .vmem S256x768 .f32) (h8 : a8.IsWhole) (a9 : Memref sig .tc .vmem S1x768 .f32) (h9 : a9.IsWhole) (a10 : Memref sig .tc .vmem S2048x768 .f32) (h10 : a10.IsWhole) (hc : ¬cond0_0 i)
    (x0 : FVec Ideal S2048x768 .f32) (x1 x2 x3 : FVec Ideal S768x256 .f32) (x4 x5 x6 : FVec Ideal S1x1x256 .f32) (x7 : FVec Ideal S256x768 .f32) (x8 : FVec Ideal S1x768 .f32)
    (xo9 : FVec Ideal S2048x768 .f32) (Q K V : ℕ → ℕ → ℝ) (h : Blocks x0 x1 x2 x3 x4 x5 x6 Q K V) (s : Fin 2048) (e : Fin 768) :
    out0_B_9 (F := Ideal) c i a1 h1 a2 h2 a3 h3 a4 h4 a5 h5 a6 h6 a7 h7 a8 h8 a9 h9 a10 h10 hc x0 x1 x2 x3 x4 x5 x6 x7 x8 xo9 (ix2 s e)
      = xo9 (ix2 s e) + ∑ j : Fin 256, ((hout Q (fun t j => kd (K t) j) V s.val j.val : ℝ) : EReal) * x7 (ix2 j e) := by
  unfold out0_B_9
  rw [View.read_writes_eq_canon _ _ _ (cover0_B_9 (F := Ideal) c i a1 h1 a2 h2 a3 h3 a4 h4 a5 h5 a6 h6 a7 h7 a8 h8 a9 h9 a10 h10 hc x0 x1 x2 x3 x4 x5 x6 x7 x8 xo9)]
  unfold kernelRun0_B
  dsimp only
  sl_unfold_words
  simp only [View.readAt_eq_ld, h1.read_unread, h2.read_unread, h3.read_unread, h4.read_unread, h5.read_unread,
    h6.read_unread, h7.read_unread, h8.read_unread, h9.read_unread, h10.read_unread, View.ld_unit_zero (S := S2048x768) zero2,
    View.ld_unit_zero (S := S768x256) zero2, View.ld_unit_zero (S := S1x1x256) zero3, View.ld_unit_zero (S := S256x768) zero2]
  refine canon_two _ _ _ (fun s e => xo9 (ix2 s e) + ∑ j : Fin 256, ((hout Q (fun t j => kd (K t) j) V s.val j.val : ℝ) : EReal) * x7 (ix2 j e)) ?_ ?_ s e
  · intro s e
    rw [first_at x0 x1 x2 x3 x4 x5 x6 x7 _ Q K V h]
    congr 1
    exact congrArg xo9 (emb_lo s e)
  · intro s e
    rw [second_at x0 x1 x2 x3 x4 x5 x6 x7 _ Q K V h]
    congr 1
    exact congrArg xo9 (emb_hi s e)

/-- The first point adds its group's share to the bias row. -/
theorem out_A_at (c : Dev nD) (i : grid0.Coords) (a1 : Memref sig .tc .vmem S2048x768 .f32) (h1 : a1.IsWhole) (a2 : Memref sig .tc .vmem S768x256 .f32) (h2 : a2.IsWhole) (a3 : Memref sig .tc .vmem S768x256 .f32) (h3 : a3.IsWhole) (a4 : Memref sig .tc .vmem S768x256 .f32) (h4 : a4.IsWhole) (a5 : Memref sig .tc .vmem S1x1x256 .f32) (h5 : a5.IsWhole) (a6 : Memref sig .tc .vmem S1x1x256 .f32) (h6 : a6.IsWhole)
    (a7 : Memref sig .tc .vmem S1x1x256 .f32) (h7 : a7.IsWhole) (a8 : Memref sig .tc .vmem S256x768 .f32) (h8 : a8.IsWhole) (a9 : Memref sig .tc .vmem S1x768 .f32) (h9 : a9.IsWhole) (a10 : Memref sig .tc .vmem S2048x768 .f32) (h10 : a10.IsWhole) (hc : cond0_0 i)
    (x0 : FVec Ideal S2048x768 .f32) (x1 x2 x3 : FVec Ideal S768x256 .f32) (x4 x5 x6 : FVec Ideal S1x1x256 .f32) (x7 : FVec Ideal S256x768 .f32) (x8 : FVec Ideal S1x768 .f32)
    (Q K V : ℕ → ℕ → ℝ) (h : Blocks x0 x1 x2 x3 x4 x5 x6 Q K V) (s : Fin 2048) (e : Fin 768) :
    out0_A_9 (F := Ideal) c i a1 h1 a2 h2 a3 h3 a4 h4 a5 h5 a6 h6 a7 h7 a8 h8 a9 h9 a10 h10 hc x0 x1 x2 x3 x4 x5 x6 x7 x8 (ix2 s e)
      = x8 (ix2 0 e) + ∑ j : Fin 256, ((hout Q (fun t j => kd (K t) j) V s.val j.val : ℝ) : EReal) * x7 (ix2 j e) := by
  unfold out0_A_9
  rw [View.read_writes_eq_canon _ _ _ (cover0_A_9 (F := Ideal) c i a1 h1 a2 h2 a3 h3 a4 h4 a5 h5 a6 h6 a7 h7 a8 h8 a9 h9 a10 h10 hc x0 x1 x2 x3 x4 x5 x6 x7 x8)]
  unfold kernelRun0_A
  dsimp only
  sl_unfold_words
  simp only [View.readAt_eq_ld, h1.read_unread, h2.read_unread, h3.read_unread, h4.read_unread, h5.read_unread,
    h6.read_unread, h7.read_unread, h8.read_unread, h9.read_unread, h10.read_unread, View.ld_unit_zero (S := S2048x768) zero2,
    View.ld_unit_zero (S := S768x256) zero2, View.ld_unit_zero (S := S1x1x256) zero3, View.ld_unit_zero (S := S256x768) zero2,
    View.ld_unit_zero (S := S1x768) zero2]
  refine canon_two _ _ _ (fun s e => x8 (ix2 0 e) + ∑ j : Fin 256, ((hout Q (fun t j => kd (K t) j) V s.val j.val : ℝ) : EReal) * x7 (ix2 j e)) ?_ ?_ s e
  · intro s e
    rw [first_at x0 x1 x2 x3 x4 x5 x6 x7 _ Q K V h]
    congr 1
    rw [init_lo]; exact bias_at x8 _ e
  · intro s e
    rw [second_at x0 x1 x2 x3 x4 x5 x6 x7 _ Q K V h]
    congr 1
    rw [init_hi]; exact bias_at x8 _ e

end Cert.Attn
-- ==== Proof.Grid.lean ====
/- The blocks each grid point reads, as entries of the argument arrays, and the output array after the last point. -/
module

public import proofs.«01_k».proof.Proof.Block
public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- The argument arrays on a device. -/
abbrev arg0 (c : Dev nD) : FVec Ideal S1x2048x768 .f32 := m ((c : Thread nD τ).loc main_arg0)
/-- The first weight, on a device. -/
abbrev arg1 (c : Dev nD) : FVec Ideal S768x2304 .f32 := m ((c : Thread nD τ).loc main_arg1)
/-- The first bias. -/
abbrev arg2 (c : Dev nD) : FVec Ideal S2304 .f32 := m ((c : Thread nD τ).loc main_arg2)
/-- The second weight. -/
abbrev arg3 (c : Dev nD) : FVec Ideal S768x768 .f32 := m ((c : Thread nD τ).loc main_arg3)
/-- The second bias. -/
abbrev arg4 (c : Dev nD) : FVec Ideal S768 .f32 := m ((c : Thread nD τ).loc main_arg4)

/-- The reshaped arrays the region finds. -/
theorem V_v0 (c : Dev nD) : V m c main_v0 = shapeCast S2048x768 (arg0 m c) shapeCasts_S1x2048x768_S2048x768 := by
  show StableHlo.after hostOps0 _ (Proc.devRef .tc main_v0) = _
  after_results
  rfl

/-- The first bias as the launch takes it: nine rows of 256. -/
theorem V_v1 (c : Dev nD) : V m c main_v1 = shapeCast S9x1x256 (arg2 m c) shapeCasts_S2304_S9x1x256 := by
  show StableHlo.after hostOps0 _ (Proc.devRef .tc main_v1) = _
  after_results
  rfl

/-- The second bias as the launch takes it: one row. -/
theorem V_v2 (c : Dev nD) : V m c main_v2 = shapeCast S1x768 (arg4 m c) shapeCasts_S768_S1x768 := by
  show StableHlo.after hostOps0 _ (Proc.devRef .tc main_v2) = _
  after_results
  rfl

/-- There are three grid points. -/
theorem t_lt (t : Fin cfg0.N) : t.val < 3 := lt_of_lt_of_eq t.isLt (show cfg0.N = 3 from N_0)

/-- The block of the first weight matrix a point reads for its query columns. -/
theorem iblk1_at (c : Dev nD) (t : Fin cfg0.N) (a : Fin 768) (b : Fin 256) :
    (iblk m c 1 t : Vec Ideal ⟨2, ![768, 256]⟩ .f32) (ix2 a b) = arg1 m c (ix2 a ⟨256 * t.val + b.val, by have := t_lt t; have := b.isLt; omega⟩) := by
  have hi : win0_1.index t 0 = 0 ∧ win0_1.index t 1 = t.val := by
    rcases fin_N0 t with rfl | rfl | rfl <;> decide
  unfold iblk
  rw [View.read_apply]
  show V m c main_arg1 _ = _
  rw [V_main_arg1]
  refine congrArg (arg1 m c) (funext fun k => Fin.ext ?_)
  match k with
  | ⟨0, _⟩ => show win0_1.index t 0 * 768 + 1 * a.val = _; rw [hi.1]; show 0 * 768 + 1 * a.val = a.val; omega
  | ⟨1, _⟩ => show win0_1.index t 1 * 256 + 1 * b.val = _; rw [hi.2]; show (t.val) * 256 + 1 * b.val = 256 * t.val + b.val; omega

/-- The block of the first weight matrix a point reads for its key columns. -/
theorem iblk2_at (c : Dev nD) (t : Fin cfg0.N) (a : Fin 768) (b : Fin 256) :
    (iblk m c 2 t : Vec Ideal ⟨2, ![768, 256]⟩ .f32) (ix2 a b) = arg1 m c (ix2 a ⟨768 + 256 * t.val + b.val, by have := t_lt t; have := b.isLt; omega⟩) := by
  have hi : win0_2.index t 0 = 0 ∧ win0_2.index t 1 = 3 + t.val := by
    rcases fin_N0 t with rfl | rfl | rfl <;> decide
  unfold iblk
  rw [View.read_apply]
  show V m c main_arg1 _ = _
  rw [V_main_arg1]
  refine congrArg (arg1 m c) (funext fun k => Fin.ext ?_)
  match k with
  | ⟨0, _⟩ => show win0_2.index t 0 * 768 + 1 * a.val = _; rw [hi.1]; show 0 * 768 + 1 * a.val = a.val; omega
  | ⟨1, _⟩ => show win0_2.index t 1 * 256 + 1 * b.val = _; rw [hi.2]; show (3 + t.val) * 256 + 1 * b.val = 768 + 256 * t.val + b.val; omega

/-- The block of the first weight matrix a point reads for its value columns. -/
theorem iblk3_at (c : Dev nD) (t : Fin cfg0.N) (a : Fin 768) (b : Fin 256) :
    (iblk m c 3 t : Vec Ideal ⟨2, ![768, 256]⟩ .f32) (ix2 a b) = arg1 m c (ix2 a ⟨1536 + 256 * t.val + b.val, by have := t_lt t; have := b.isLt; omega⟩) := by
  have hi : win0_3.index t 0 = 0 ∧ win0_3.index t 1 = 6 + t.val := by
    rcases fin_N0 t with rfl | rfl | rfl <;> decide
  unfold iblk
  rw [View.read_apply]
  show V m c main_arg1 _ = _
  rw [V_main_arg1]
  refine congrArg (arg1 m c) (funext fun k => Fin.ext ?_)
  match k with
  | ⟨0, _⟩ => show win0_3.index t 0 * 768 + 1 * a.val = _; rw [hi.1]; show 0 * 768 + 1 * a.val = a.val; omega
  | ⟨1, _⟩ => show win0_3.index t 1 * 256 + 1 * b.val = _; rw [hi.2]; show (6 + t.val) * 256 + 1 * b.val = 1536 + 256 * t.val + b.val; omega

/-- The block of the second weight matrix a point reads. -/
theorem iblk7_at (c : Dev nD) (t : Fin cfg0.N) (a : Fin 256) (b : Fin 768) :
    (iblk m c 7 t : Vec Ideal ⟨2, ![256, 768]⟩ .f32) (ix2 a b) = arg3 m c (ix2 ⟨256 * t.val + a.val, by have := t_lt t; have := a.isLt; omega⟩ b) := by
  have hi : win0_7.index t 0 = t.val ∧ win0_7.index t 1 = 0 := by
    rcases fin_N0 t with rfl | rfl | rfl <;> decide
  unfold iblk
  rw [View.read_apply]
  show V m c main_arg3 _ = _
  rw [V_main_arg3]
  refine congrArg (arg3 m c) (funext fun k => Fin.ext ?_)
  match k with
  | ⟨0, _⟩ => show win0_7.index t 0 * 256 + 1 * a.val = _; rw [hi.1]; show t.val * 256 + 1 * a.val = 256 * t.val + a.val; omega
  | ⟨1, _⟩ => show win0_7.index t 1 * 768 + 1 * b.val = _; rw [hi.2]; show 0 * 768 + 1 * b.val = b.val; omega

/-- The block of activations a point reads: all of them. -/
theorem iblk0_at (c : Dev nD) (t : Fin cfg0.N) (a : Fin 2048) (b : Fin 768) :
    (iblk m c 0 t : Vec Ideal ⟨2, ![2048, 768]⟩ .f32) (ix2 a b) = arg0 m c (ix3 0 a b) := by
  have hi : win0_0.index t 0 = 0 ∧ win0_0.index t 1 = 0 := by
    rcases fin_N0 t with rfl | rfl | rfl <;> decide
  unfold iblk
  rw [View.read_apply]
  show V m c main_v0 _ = _
  rw [V_v0]
  refine shapeCast_apply _ _ _ _ ?_
  rw [Shape.rowMajor_val_two, Shape.rowMajor_val_three]
  show (0 * 2048 + a.val) * 768 + b.val = (win0_0.index t 0 * 2048 + 1 * a.val) * 768 + (win0_0.index t 1 * 768 + 1 * b.val)
  rw [hi.1, hi.2]
  omega

/-- The output bias as a point reads it. -/
theorem iblk8_at (c : Dev nD) (t : Fin cfg0.N) (b : Fin 768) :
    (iblk m c 8 t : Vec Ideal ⟨2, ![1, 768]⟩ .f32) (ix2 0 b) = arg4 m c (ix1 b) := by
  have hi : win0_8.index t 0 = 0 ∧ win0_8.index t 1 = 0 := by
    rcases fin_N0 t with rfl | rfl | rfl <;> decide
  unfold iblk
  rw [View.read_apply]
  show V m c main_v2 _ = _
  rw [V_v2]
  refine shapeCast_apply _ _ _ _ ?_
  rw [Shape.rowMajor_val_two, Shape.rowMajor_val_one]
  show b.val = (win0_8.index t 0 * 1 + 1 * 0) * 768 + (win0_8.index t 1 * 768 + 1 * b.val)
  rw [hi.1, hi.2]
  omega

/-- The part of the first bias a point reads for its query columns. -/
theorem iblk4_at (c : Dev nD) (t : Fin cfg0.N) (b : Fin 256) :
    (iblk m c 4 t : Vec Ideal ⟨3, ![1, 1, 256]⟩ .f32) (ix3 0 0 b) = arg2 m c (ix1 ⟨256 * t.val + b.val, by have := t_lt t; have := b.isLt; omega⟩) := by
  have hi : win0_4.index t 0 = t.val ∧ win0_4.index t 1 = 0 ∧ win0_4.index t 2 = 0 := by
    rcases fin_N0 t with rfl | rfl | rfl <;> decide
  unfold iblk
  rw [View.read_apply]
  show V m c main_v1 _ = _
  rw [V_v1]
  refine shapeCast_apply _ _ _ _ ?_
  rw [Shape.rowMajor_val_three, Shape.rowMajor_val_one]
  show 256 * t.val + b.val = ((win0_4.index t 0 * 1 + 1 * 0) * 1 + (win0_4.index t 1 * 1 + 1 * 0)) * 256 + (win0_4.index t 2 * 256 + 1 * b.val)
  rw [hi.1, hi.2.1, hi.2.2]
  omega

/-- The part of the first bias a point reads for its key columns. -/
theorem iblk5_at (c : Dev nD) (t : Fin cfg0.N) (b : Fin 256) :
    (iblk m c 5 t : Vec Ideal ⟨3, ![1, 1, 256]⟩ .f32) (ix3 0 0 b) = arg2 m c (ix1 ⟨768 + 256 * t.val + b.val, by have := t_lt t; have := b.isLt; omega⟩) := by
  have hi : win0_5.index t 0 = 3 + t.val ∧ win0_5.index t 1 = 0 ∧ win0_5.index t 2 = 0 := by
    rcases fin_N0 t with rfl | rfl | rfl <;> decide
  unfold iblk
  rw [View.read_apply]
  show V m c main_v1 _ = _
  rw [V_v1]
  refine shapeCast_apply _ _ _ _ ?_
  rw [Shape.rowMajor_val_three, Shape.rowMajor_val_one]
  show 768 + 256 * t.val + b.val = ((win0_5.index t 0 * 1 + 1 * 0) * 1 + (win0_5.index t 1 * 1 + 1 * 0)) * 256 + (win0_5.index t 2 * 256 + 1 * b.val)
  rw [hi.1, hi.2.1, hi.2.2]
  omega

/-- The part of the first bias a point reads for its value columns. -/
theorem iblk6_at (c : Dev nD) (t : Fin cfg0.N) (b : Fin 256) :
    (iblk m c 6 t : Vec Ideal ⟨3, ![1, 1, 256]⟩ .f32) (ix3 0 0 b) = arg2 m c (ix1 ⟨1536 + 256 * t.val + b.val, by have := t_lt t; have := b.isLt; omega⟩) := by
  have hi : win0_6.index t 0 = 6 + t.val ∧ win0_6.index t 1 = 0 ∧ win0_6.index t 2 = 0 := by
    rcases fin_N0 t with rfl | rfl | rfl <;> decide
  unfold iblk
  rw [View.read_apply]
  show V m c main_v1 _ = _
  rw [V_v1]
  refine shapeCast_apply _ _ _ _ ?_
  rw [Shape.rowMajor_val_three, Shape.rowMajor_val_one]
  show 1536 + 256 * t.val + b.val = ((win0_6.index t 0 * 1 + 1 * 0) * 1 + (win0_6.index t 1 * 1 + 1 * 0)) * 256 + (win0_6.index t 2 * 256 + 1 * b.val)
  rw [hi.1, hi.2.1, hi.2.2]
  omega

end Cert.Attn
-- ==== Proof.Result.lean ====
/- The output array after the last grid point, as a function of the argument arrays. -/
module

public import proofs.«01_k».proof.Proof.Grid

@[expose] public section

set_option maxRecDepth 16384

noncomputable section

namespace Cert.Attn

open Cert.KernelIdeal Cert.KernelIdeal.Gen Idealize.ShloMosaic Idealize.ShloMosaic.TcCoe Idealize.SL.Sem

/-- The arguments of the first projection hold real numbers. -/
structure Holds (a0 : FVec Ideal S1x2048x768 .f32) (a1 : FVec Ideal S768x2304 .f32) (a2 : FVec Ideal S2304 .f32)
    (X W : ℕ → ℕ → ℝ) (B : ℕ → ℝ) : Prop where
  x : ∀ (s : Fin 2048) (i : Fin 768), a0 (ix3 0 s i) = ((X s.val i.val : ℝ) : EReal)
  w : ∀ (i : Fin 768) (j : Fin 2304), a1 (ix2 i j) = ((W i.val j.val : ℝ) : EReal)
  b : ∀ j : Fin 2304, a2 (ix1 j) = ((B j.val : ℝ) : EReal)

/-- One product of the output projection: the attention output in column `k` of row `s` times its weight. -/
def prod (a3 : FVec Ideal S768x768 .f32) (X W : ℕ → ℕ → ℝ) (B : ℕ → ℝ) (s : ℕ) (e : Fin 768) (k : ℕ) : EReal :=
  if h : k < 768 then ((att X W B s k : ℝ) : EReal) * a3 (ix2 ⟨k, h⟩ e) else 0

/-- The value both programs compute at row `s`, column `e`. -/
def value (a3 : FVec Ideal S768x768 .f32) (a4 : FVec Ideal S768 .f32) (X W : ℕ → ℕ → ℝ) (B : ℕ → ℝ) (s : Fin 2048) (e : Fin 768) : EReal :=
  (∑ k : Fin 768, ((att X W B s.val k.val : ℝ) : EReal) * a3 (ix2 k e)) + a4 (ix1 e)

/-- Dequantising reads only the group of four a column lies in, so it commutes with a shift by whole groups. -/
theorem kd_shift (k : ℕ → ℝ) (g j : ℕ) : kd (fun i => k (256 * g + i)) j = kd k (256 * g + j) := by
  have h : (256 * g + j) / 4 * 4 = 256 * g + j / 4 * 4 := by omega
  simp only [kd, grp, h, Nat.add_assoc]

/-- The four heads of point `g` are heads `4 g` to `4 g + 3` of the whole. -/
theorem hout_eq (X W : ℕ → ℕ → ℝ) (B : ℕ → ℝ) (g s j : ℕ) :
    hout (lin X (fun i j => W i (256 * g + j)) (fun j => B (256 * g + j)))
      (fun t j => kd (lin X (fun i j => W i (768 + 256 * g + j)) (fun j => B (768 + 256 * g + j)) t) j)
      (lin X (fun i j => W i (1536 + 256 * g + j)) (fun j => B (1536 + 256 * g + j))) s j
      = att X W B s (256 * g + j) := by
  have hk : ∀ t j, kd (lin X (fun i j => W i (768 + 256 * g + j)) (fun j => B (768 + 256 * g + j)) t) j
      = kd (fun j => qkv X W B t (768 + j)) (256 * g + j) := fun t j => by
    rw [← kd_shift]
    unfold lin qkv
    simp only [Nat.add_assoc]
  have hj : (256 * g + j) / 64 * 64 = 256 * g + j / 64 * 64 := by omega
  unfold hout att score
  simp only [hk, hj]
  simp only [lin, qkv, Nat.add_assoc]

variable (m : (ℓ : Loc nD τ sig) → Buf (Elt Ideal) ℓ)

/-- The blocks that a grid point reads, as parts of the arguments. -/
theorem blocks_at (c : Dev nD) (X W : ℕ → ℕ → ℝ) (B : ℕ → ℝ) (h : Holds (arg0 m c) (arg1 m c) (arg2 m c) X W B) (t : Fin cfg0.N) :
    Blocks (iblk m c 0 t) (iblk m c 1 t) (iblk m c 2 t) (iblk m c 3 t) (iblk m c 4 t) (iblk m c 5 t) (iblk m c 6 t)
      (lin X (fun i j => W i (256 * t.val + j)) (fun j => B (256 * t.val + j)))
      (lin X (fun i j => W i (768 + 256 * t.val + j)) (fun j => B (768 + 256 * t.val + j)))
      (lin X (fun i j => W i (1536 + 256 * t.val + j)) (fun j => B (1536 + 256 * t.val + j))) :=
  ⟨X, _, _, _, _, _, _, fun a b => (iblk0_at m c t a b).trans (h.x a b), fun a b => (iblk1_at m c t a b).trans (h.w _ _),
    fun a b => (iblk2_at m c t a b).trans (h.w _ _), fun a b => (iblk3_at m c t a b).trans (h.w _ _),
    fun b => (iblk4_at m c t b).trans (h.b _), fun b => (iblk5_at m c t b).trans (h.b _),
    fun b => (iblk6_at m c t b).trans (h.b _), rfl, rfl, rfl⟩

/-- The share of the output projection that point `t` adds. -/
theorem share_at (c : Dev nD) (X W : ℕ → ℕ → ℝ) (B : ℕ → ℝ) (t : Fin cfg0.N) (s : ℕ) (e : Fin 768) :
    (∑ j : Fin 256, ((hout (lin X (fun i j => W i (256 * t.val + j)) (fun j => B (256 * t.val + j)))
        (fun t' j => kd (lin X (fun i j => W i (768 + 256 * t.val + j)) (fun j => B (768 + 256 * t.val + j)) t') j)
        (lin X (fun i j => W i (1536 + 256 * t.val + j)) (fun j => B (1536 + 256 * t.val + j))) s j.val : ℝ) : EReal) * (iblk m c 7 t : Vec Ideal S256x768 .f32) (ix2 j e))
      = ∑ j ∈ Finset.range 256, prod (arg3 m c) X W B s e (256 * t.val + j) := by
  rw [Finset.sum_range]
  refine Finset.sum_congr rfl fun j _ => ?_
  have ht := t_lt t
  have hj := j.isLt
  rw [prod, dif_pos (by omega), iblk7_at m c t j e, hout_eq]

/-- After point `n` the output block holds the bias and the products of the first `256 (n + 1)` columns. -/
theorem outsAt_eq (c : Dev nD) (X W : ℕ → ℕ → ℝ) (B : ℕ → ℝ) (h : Holds (arg0 m c) (arg1 m c) (arg2 m c) X W B)
    (s : Fin 2048) (e : Fin 768) : ∀ (n : ℕ) (hn : n < cfg0.N),
    outsAt0 m c n hn (ix2 s e) = arg4 m c (ix1 e) + ∑ k ∈ Finset.range (256 * (n + 1)), prod (arg3 m c) X W B s.val e k
  | 0, hn => by
    refine (congrFun (outsAt0_A m c ⟨0, hn⟩ rfl) (ix2 s e)).trans ?_
    rw [out_A_at (h := blocks_at m c X W B h ⟨0, hn⟩)]
    rw [share_at m c X W B ⟨0, hn⟩, iblk8_at]
    simp only [Nat.mul_zero, Nat.zero_add, Nat.mul_one]
  | n + 1, hn => by
    have hN : cfg0.N = 3 := N_0
    have hB : ¬(⟨n + 1, hn⟩ : Fin cfg0.N).val % 3 = 0 := by dsimp only; omega
    refine (congrFun (outsAt0_B m c ⟨n + 1, hn⟩ hB) (ix2 s e)).trans ?_
    rw [out_B_at (h := blocks_at m c X W B h ⟨n + 1, hn⟩)]
    rw [share_at m c X W B ⟨n + 1, hn⟩]
    show outsAt0 m c n _ (ix2 s e) + _ = _
    rw [outsAt_eq c X W B h s e n, show 256 * (n + 1 + 1) = 256 * (n + 1) + 256 from rfl, Finset.sum_range_add, add_assoc]

/-- The output array: the value at every row and column. -/
def result (c : Dev nD) (X W : ℕ → ℕ → ℝ) (B : ℕ → ℝ) : Buf (Elt Ideal) ((c : Thread nD τ).loc main_v3) :=
  fun i : S2048x768.Idx => value (arg3 m c) (arg4 m c) X W B (i 0) (i 1)

/-- The output block after the last grid point is the result. -/
theorem last_eq (c : Dev nD) (X W : ℕ → ℕ → ℝ) (B : ℕ → ℝ) (h : Holds (arg0 m c) (arg1 m c) (arg2 m c) X W B)
    (h2 : 2 < cfg0.N) : outsAt0 m c 2 h2 = (fun i : S2048x768.Idx => value (arg3 m c) (arg4 m c) X W B (i 0) (i 1)) := by
  funext i
  idx_vars i
  rw [outsAt_eq m c X W B h i0 i1 2 h2, Finset.sum_range, add_comm]
  refine congrArg (· + _) (Finset.sum_congr rfl fun k _ => ?_)
  rw [prod, dif_pos k.isLt]

/-- What a grid point writes back is its part of the result. -/
theorem flushed_eq (c : Dev nD) (X W : ℕ → ℕ → ℝ) (B : ℕ → ℝ) (h : Holds (arg0 m c) (arg1 m c) (arg2 m c) X W B)
    (t : Fin cfg0.N) (hf : (cfg0.win 9).flush t = true) :
    (dats m 0 c).flushed 9 t = ((cfg0.win 9).blk t).view.read (Elt Ideal) (result m c X W B) := by
  have hN : cfg0.N = 3 := N_0
  have h3 : t.val = 2 := by have := (flush0_9 t).mp hf; have := t.isLt; omega
  obtain rfl : t = t0_2 := Fin.ext h3
  show (cfg0.win 9).cut (grid0.coords t0_2) ((dats m 0 c).after 9 t0_2) = _
  rw [after0_9]
  have hz' : (fun a => win0_9.index t0_2 a * main_v3.ty.shape.size a) = fun _ => 0 := funext fun a => by fin_cases a <;> decide
  refine Eq.trans ?_ (Memref.read_access_unit_zero (Elt Ideal) main_v3 hz' (fun a => by rw [congrFun hz' a]; simp) (result m c X W B)).symm
  exact last_eq m c X W B h _

/-- The output array after the run. -/
theorem final_eq (c : Dev nD) (X W : ℕ → ℕ → ℝ) (B : ℕ → ℝ) (h : Holds (arg0 m c) (arg1 m c) (arg2 m c) X W B) :
    (dats m 0 c).arrAt 9 cfg0.N = result m c X W B :=
  (dats m 0 c).arrAt_eq_of_cover 9 (result m c X W B) (flushed_eq m c X W B h) fun i =>
    ⟨t0_2, (flush0_9 t0_2).mpr rfl, by
      show i ∈ ((View.whole main_v3).slice (win0_9.rect t0_2)).set
      rw [View.set_slice_whole, Rect.mem_set_unit]
      intro a
      have h0 : (i 0 : Nat) < 2048 := (i 0).isLt
      have h1 : (i 1 : Nat) < 768 := (i 1).isLt
      match a with
      | ⟨0, _⟩ => show win0_9.index t0_2 0 * win0_9.size 0 ≤ (i 0 : Nat) ∧ (i 0 : Nat) < win0_9.index t0_2 0 * win0_9.size 0 + win0_9.xsize (grid0.coords t0_2) 0
                  rw [show win0_9.index t0_2 0 * win0_9.size 0 = 0 from by decide +kernel, show win0_9.xsize (grid0.coords t0_2) 0 = 2048 from by decide +kernel]; omega
      | ⟨1, _⟩ => show win0_9.index t0_2 1 * win0_9.size 1 ≤ (i 1 : Nat) ∧ (i 1 : Nat) < win0_9.index t0_2 1 * win0_9.size 1 + win0_9.xsize (grid0.coords t0_2) 1
                  rw [show win0_9.index t0_2 1 * win0_9.size 1 = 0 from by decide +kernel, show win0_9.xsize (grid0.coords t0_2) 1 = 768 from by decide +kernel]; omega⟩

end Cert.Attn
-- ==== Proof.RefKeys.lean ====
/- The reference's projections and dequantised keys, read at an index. -/
module

public import proofs.«01_k».proof.Proof.Result
public import proofs.«01_k».proof.Proof.Gen.ReferenceIdeal.Read

@[expose] public section

set_option maxRecDepth 16384

noncomputable section

namespace Cert.Attn

open Cert.ReferenceIdeal Cert.ReferenceIdeal.Gen Cert.ReferenceIdeal.Read Idealize.ShloMosaic

/-- The unquantised keys of row `t`, by column. -/
def keyRow (X W : ℕ → ℕ → ℝ) (B : ℕ → ℝ) (t : ℕ) : ℕ → ℝ := fun j => qkv X W B t (768 + j)

/-- The row of a head's entry in the unsplit array. -/
theorem row_of_head {z s h d : ℕ} (hz : z < 1) (hs : s < 2048) (hh : h < 12) (hd : d < 64) :
    (((z * 2048 + s) * 12 + h) * 64 + d) / 768 % 2048 = s := by omega

/-- The column of a head's entry in the unsplit array. -/
theorem col_of_head {z s h d : ℕ} (hz : z < 1) (hs : s < 2048) (hh : h < 12) (hd : d < 64) :
    (((z * 2048 + s) * 12 + h) * 64 + d) % 768 = 64 * h + d := by omega

section
variable {x0 : (⟨S1x2048x768, .f32⟩ : BufTy).Contents (Elt Ideal)} {x1 : (⟨S768x2304, .f32⟩ : BufTy).Contents (Elt Ideal)}
  {x2 : (⟨S2304, .f32⟩ : BufTy).Contents (Elt Ideal)} {X W : ℕ → ℕ → ℝ} {B : ℕ → ℝ} (h : Holds x0 x1 x2 X W B)
include h

/-- An entry of the input, by the values of its coordinates. -/
theorem x_at (i : S1x2048x768.Idx) : x0 i = ((X (i 1).val (i 2).val : ℝ) : EReal) := by
  have e : i = ix3 0 (i 1) (i 2) := funext fun a => by
    match a with
    | ⟨0, _⟩ => exact Fin.ext (Nat.lt_one_iff.1 (i 0).isLt)
    | ⟨1, _⟩ => rfl
    | ⟨2, _⟩ => rfl
  exact (congrArg x0 e).trans (h.x (i 1) (i 2))

/-- An entry of the first weight. -/
theorem w_at (i : S768x2304.Idx) : x1 i = ((W (i 0).val (i 1).val : ℝ) : EReal) := by
  have e : i = ix2 (i 0) (i 1) := funext fun a => by
    match a with
    | ⟨0, _⟩ => rfl
    | ⟨1, _⟩ => rfl
  exact (congrArg x1 e).trans (h.w (i 0) (i 1))

/-- An entry of the first bias. -/
theorem b_at (i : S2304.Idx) : x2 i = ((B (i 0).val : ℝ) : EReal) := by
  have e : i = ix1 (i 0) := funext fun a => by
    match a with
    | ⟨0, _⟩ => rfl
  exact (congrArg x2 e).trans (h.b (i 0))

/-- The first projection. -/
theorem lin_at (i : S1x2048x2304.Idx) {s c : ℕ} (hs : (i 1).val = s) (hc : (i 2).val = c) :
    val_main_v3 (F := Ideal) x0 x1 x2 i = ((qkv X W B s c : ℝ) : EReal) := by
  subst hs hc
  rw [val_main_v3_apply, val_main_v0_apply, val_main_v2_apply, val_main_v1_apply, b_at h]
  show (∑ k : Fin 768, x0 (lidx_main_v0 i k) * x1 (ridx_main_v0 i k)) + ((B (i 2).val : ℝ) : EReal) = _
  rw [qkv, EReal.coe_add, ← coe_sum]
  refine congrArg (· + _) (Finset.sum_congr rfl fun k _ => ?_)
  rw [x_at h, w_at h, EReal.coe_mul]

/-- A query. -/
theorem q_at (i : S1x12x2048x64.Idx) :
    val_main_v8 (F := Ideal) x0 x1 x2 i = ((qkv X W B (i 2).val (64 * (i 1).val + (i 3).val) : ℝ) : EReal) := by
  rw [val_main_v8_apply, val_main_v7_apply, val_main_v4_apply]
  exact lin_at h _ (row_of_head (i 0).isLt (i 2).isLt (i 1).isLt (i 3).isLt)
    (col_of_head (i 0).isLt (i 2).isLt (i 1).isLt (i 3).isLt)

/-- A key. -/
theorem k_at (i : S1x12x2048x64.Idx) :
    val_main_v10 (F := Ideal) x0 x1 x2 i = ((keyRow X W B (i 2).val (64 * (i 1).val + (i 3).val) : ℝ) : EReal) := by
  rw [val_main_v10_apply, val_main_v9_apply, val_main_v5_apply]
  exact lin_at h _ (row_of_head (i 0).isLt (i 2).isLt (i 1).isLt (i 3).isLt)
    (congrArg (768 + ·) (col_of_head (i 0).isLt (i 2).isLt (i 1).isLt (i 3).isLt))

/-- A value. -/
theorem v_at (i : S1x12x2048x64.Idx) :
    val_main_v12 (F := Ideal) x0 x1 x2 i = ((qkv X W B (i 2).val (1536 + (64 * (i 1).val + (i 3).val)) : ℝ) : EReal) := by
  rw [val_main_v12_apply, val_main_v11_apply, val_main_v6_apply]
  exact lin_at h _ (row_of_head (i 0).isLt (i 2).isLt (i 1).isLt (i 3).isLt)
    (congrArg (1536 + ·) (col_of_head (i 0).isLt (i 2).isLt (i 1).isLt (i 3).isLt))

/-- A key by its group and its place in the group. -/
theorem grouped_at (i : S1x12x2048x16x4.Idx) :
    val_main_v13 (F := Ideal) x0 x1 x2 i
      = ((keyRow X W B (i 2).val (64 * (i 1).val + 4 * (i 3).val + (i 4).val) : ℝ) : EReal) := by
  have h0 : (i 0).val < 1 := (i 0).isLt
  have h1 : (i 1).val < 12 := (i 1).isLt
  have h2 : (i 2).val < 2048 := (i 2).isLt
  have h3 : (i 3).val < 16 := (i 3).isLt
  have h4 : (i 4).val < 4 := (i 4).isLt
  have e2 : (((((i 0).val * 12 + (i 1).val) * 2048 + (i 2).val) * 16 + (i 3).val) * 4 + (i 4).val) / 64 % 2048 = (i 2).val := by omega
  have e1 : 64 * ((((((i 0).val * 12 + (i 1).val) * 2048 + (i 2).val) * 16 + (i 3).val) * 4 + (i 4).val) / 131072 % 12)
      + (((((i 0).val * 12 + (i 1).val) * 2048 + (i 2).val) * 16 + (i 3).val) * 4 + (i 4).val) % 64
      = 64 * (i 1).val + 4 * (i 3).val + (i 4).val := by omega
  rw [val_main_v13_apply, k_at h]
  exact congrArg (fun r : ℝ => (r : EReal)) (congrArg₂ (keyRow X W B) e2 e1)

omit h in
/-- A maximum over four entries. -/
theorem fold_max_four (f : Fin 4 → EReal) :
    Finset.univ.fold max (⊥ : EReal) f = max (max (max (f 0) (f 1)) (f 2)) (f 3) := by
  have e : (Finset.univ : Finset (Fin 4)) = {0, 1, 2, 3} := by decide
  rw [e, Finset.fold_insert (by decide), Finset.fold_insert (by decide), Finset.fold_insert (by decide), Finset.fold_singleton,
    max_bot_right, max_assoc, max_assoc]

/-- The largest magnitude of a group of keys. -/
theorem groupMax_at (i : S1x12x2048x16.Idx) :
    val_main_v15 (F := Ideal) x0 x1 x2 i = ((grp (keyRow X W B (i 2).val) (64 * (i 1).val + 4 * (i 3).val) : ℝ) : EReal) := by
  rw [val_main_v15]
  have hr : S1x12x2048x16x4.Reduces [4] S1x12x2048x16 := by decide
  rw [Host.reduce_eq_fold_single FloatOps.maximumf _ _ reducesTo_S1x12x2048x16x4_S1x12x2048x16_d4 hr h_S_ i]
  have hb : val_main_cst (F := Ideal) (Shape.Idx.first h_S_) = ⊥ := ofBits_bot
  rw [hb]
  refine (fold_max_four _).trans ?_
  have hg : (64 * (i 1).val + 4 * (i 3).val) / 4 * 4 = 64 * (i 1).val + 4 * (i 3).val := by omega
  rw [grp, hg, ← coe_max, ← coe_max, ← coe_max, ← coe_abs, ← coe_abs, ← coe_abs, ← coe_abs]
  have e : ∀ k : Fin 4, val_main_v14 (F := Ideal) x0 x1 x2 (hr.lift i k)
      = max ((keyRow X W B (i 2).val (64 * (i 1).val + 4 * (i 3).val + k.val) : ℝ) : EReal)
          (-((keyRow X W B (i 2).val (64 * (i 1).val + 4 * (i 3).val + k.val) : ℝ) : EReal)) := fun k => by
    rw [val_main_v14_apply, grouped_at h]
    rfl
  exact congrArg₂ max (congrArg₂ max (congrArg₂ max (e 0) (e 1)) (e 2)) (e 3)

/-- The scale of a group of keys. -/
theorem scale_at (i : S1x12x2048x16x1.Idx) :
    val_main_v21 (F := Ideal) x0 x1 x2 i
      = ((scl (grp (keyRow X W B (i 2).val) (64 * (i 1).val + 4 * (i 3).val)) : ℝ) : EReal) := by
  rw [val_main_v21_apply, val_main_v18_apply, val_main_v20_apply, val_main_v16_apply, groupMax_at h, val_main_v17_apply,
    val_main_v19_apply, val_main_call0_v1_apply, val_main_call0_v0_apply]
  show Scalar.select (Ideal.cmp .ogt ((grp (keyRow X W B (i 2).val) (64 * (i 1).val + 4 * (i 3).val) : ℝ) : EReal) (Ideal.ofBits .f32 0x00000000#32))
    (Ideal.div ((grp (keyRow X W B (i 2).val) (64 * (i 1).val + 4 * (i 3).val) : ℝ) : EReal) (Ideal.ofBits .f32 0x3F800000#32))
    (Ideal.ofBits .f32 0x3F800000#32) = _
  rw [Ideal.ofBits_zero, ofBits_one, coe_div _ _ one_ne_zero, div_one]
  exact select_scl _

/-- A dequantised key by its group and its place in the group. -/
theorem groupDeq_at (i : S1x12x2048x16x4.Idx) :
    val_main_v27 (F := Ideal) x0 x1 x2 i
      = ((kd (keyRow X W B (i 2).val) (64 * (i 1).val + 4 * (i 3).val + (i 4).val) : ℝ) : EReal) := by
  have h4 : (i 4).val < 4 := (i 4).isLt
  rw [val_main_v27_apply, val_main_v26_apply, scale_at h, val_main_v25_apply, val_main_call2_v4_apply, val_main_call2_v3_apply,
    val_main_call2_v2_apply, val_main_call2_v1_apply, val_main_call2_v0_apply, val_main_v24_apply, val_main_v23_apply,
    grouped_at h, val_main_v22_apply, scale_at h]
  have hg : grp (keyRow X W B (i 2).val) (64 * (i 1).val + 4 * (i 3).val + (i 4).val)
      = grp (keyRow X W B (i 2).val) (64 * (i 1).val + 4 * (i 3).val) := by
    have e1 : (64 * (i 1).val + 4 * (i 3).val + (i 4).val) / 4 * 4 = 64 * (i 1).val + 4 * (i 3).val := by omega
    have e2 : (64 * (i 1).val + 4 * (i 3).val) / 4 * 4 = 64 * (i 1).val + 4 * (i 3).val := by omega
    rw [grp, grp, e1, e2]
  have c1 : (FloatOps.sitofp .f32 (val_main_c_3 (F := Ideal) (idx_main_call2_v4 i)) : Ideal .f32) = ((1 : ℝ) : EReal) := by
    show (((1#32 : BitVec 32).toInt : ℝ) : EReal) = _
    rw [show (1#32 : BitVec 32).toInt = 1 by decide]; norm_num
  have c2 : (FloatOps.sitofp .f32 (val_main_c (F := Ideal) (idx_main_call2_v1 i)) : Ideal .f32) = ((-2 : ℝ) : EReal) := by
    show (((4294967294#32 : BitVec 32).toInt : ℝ) : EReal) = _
    rw [show (4294967294#32 : BitVec 32).toInt = -2 by decide]; norm_num
  rw [c1, c2, kd, hg]
  exact coe_deq _ _ (scl_pos _)

/-- A dequantised key by its head and its column there. -/
theorem deq_at (i : S1x12x2048x64.Idx) :
    val_main_v28 (F := Ideal) x0 x1 x2 i = ((kd (keyRow X W B (i 2).val) (64 * (i 1).val + (i 3).val) : ℝ) : EReal) := by
  have h0 : (i 0).val < 1 := (i 0).isLt
  have h1 : (i 1).val < 12 := (i 1).isLt
  have h2 : (i 2).val < 2048 := (i 2).isLt
  have h3 : (i 3).val < 64 := (i 3).isLt
  have e2 : ((((i 0).val * 12 + (i 1).val) * 2048 + (i 2).val) * 64 + (i 3).val) / 64 % 2048 = (i 2).val := by omega
  have e1 : 64 * (((((i 0).val * 12 + (i 1).val) * 2048 + (i 2).val) * 64 + (i 3).val) / 131072 % 12)
      + 4 * (((((i 0).val * 12 + (i 1).val) * 2048 + (i 2).val) * 64 + (i 3).val) / 4 % 16)
      + ((((i 0).val * 12 + (i 1).val) * 2048 + (i 2).val) * 64 + (i 3).val) % 4 = 64 * (i 1).val + (i 3).val := by omega
  rw [val_main_v28_apply, groupDeq_at h]
  exact congrArg (fun r : ℝ => (r : EReal)) (congrArg₂ (fun s j => kd (keyRow X W B s) j) e2 e1)

end

end Cert.Attn

end
-- ==== Proof.RefCache.lean ====
/- The reference's caches: every row is written at its own position, so a cache is the array written to it. -/
module

public import proofs.«01_k».proof.Proof.Gen.ReferenceIdeal.Read
public import Idealize.ShloMosaic.Lib.Routing.OpsSet

@[expose] public section

set_option maxRecDepth 16384

noncomputable section

namespace Cert.Attn

open Cert.ReferenceIdeal Cert.ReferenceIdeal.Gen Cert.ReferenceIdeal.Read Idealize.ShloMosaic

/-- The wrap of a position does nothing to one that is not negative. -/
theorem wrap_position (n : ℕ) (hn : n < 2048) :
    (Scalar.select (IntOp.cmpi .slt (BitVec.ofNat 32 n) 0#32) (IntOp.addi (BitVec.ofNat 32 n) 2048#32) (BitVec.ofNat 32 n)).toInt = (n : ℤ) := by
  have ht : (BitVec.ofNat 32 n).toInt = (n : ℤ) := by
    rw [BitVec.toInt_ofNat']
    exact Int.bmod_eq_of_le (by omega) (by omega)
  have hc : IntOp.cmpi .slt (BitVec.ofNat 32 n) 0#32 = 0#1 := by
    have : ¬ (BitVec.ofNat 32 n).toInt < (0#32 : BitVec 32).toInt := by rw [ht]; simp
    show BitVec.ofBool (BitVec.slt _ _) = _
    rw [BitVec.slt, decide_eq_false this]
    rfl
  rw [hc]
  exact ht

/-- The update at `k` is written at `i` exactly when `k = i`, where row `n` of the positions holds `n`. -/
theorem lands_iff (pos : IVec S2048x1 32) (hpos : ∀ j, (pos j).toInt = ((j 0).val : ℤ)) (k i : S1x12x2048x64.Idx) :
    scatter_S1x12x2048x64_S2048x1_S1x12x2048x64_013_2_2_1.resultIdx? k pos = some i ↔ k = i := by
  rw [Routing.resultIdx?_eq_some]
  constructor
  · intro e
    funext a
    match a with
    | ⟨0, _⟩ => exact Fin.ext ((Nat.lt_one_iff.1 (k 0).isLt).trans (Nat.lt_one_iff.1 (i 0).isLt).symm)
    | ⟨1, _⟩ =>
      have e1 : (0 : ℤ) + ((k 1).val : ℤ) = ((i 1).val : ℤ) := e 1
      exact Fin.ext (show (k 1).val = (i 1).val by omega)
    | ⟨2, _⟩ =>
      have e1 : (pos (scatter_S1x12x2048x64_S2048x1_S1x12x2048x64_013_2_2_1.siIdx k ⟨0, by decide⟩)).toInt + ((0 : ℕ) : ℤ) = ((i 2).val : ℤ) := e 2
      rw [hpos] at e1
      have e2 : ((k 2).val : ℤ) + ((0 : ℕ) : ℤ) = ((i 2).val : ℤ) := e1
      exact Fin.ext (show (k 2).val = (i 2).val by omega)
    | ⟨3, _⟩ =>
      have e1 : (0 : ℤ) + ((k 3).val : ℤ) = ((i 3).val : ℤ) := e 3
      exact Fin.ext (show (k 3).val = (i 3).val by omega)
  · rintro rfl a
    match a with
    | ⟨0, _⟩ =>
      show (0 : ℤ) + ((k 0).val : ℤ) = ((k 0).val : ℤ)
      exact zero_add _
    | ⟨1, _⟩ =>
      show (0 : ℤ) + ((k 1).val : ℤ) = ((k 1).val : ℤ)
      exact zero_add _
    | ⟨2, _⟩ =>
      show (pos (scatter_S1x12x2048x64_S2048x1_S1x12x2048x64_013_2_2_1.siIdx k ⟨0, by decide⟩)).toInt + ((0 : ℕ) : ℤ) = ((k 2).val : ℤ)
      rw [hpos]
      exact add_zero _
    | ⟨3, _⟩ =>
      show (0 : ℤ) + ((k 3).val : ℤ) = ((k 3).val : ℤ)
      exact zero_add _

/-- A cache written row by row, each at its own position, is the array written. -/
theorem cache_at (old upd : FVec Ideal S1x12x2048x64 .f32) (pos : IVec S2048x1 32) (hpos : ∀ j, (pos j).toInt = ((j 0).val : ℤ))
    (i : S1x12x2048x64.Idx) :
    Host.scatter scatter_S1x12x2048x64_S2048x1_S1x12x2048x64_013_2_2_1 (fun _ b => b) old pos upd i = upd i :=
  Routing.scatter_set_hit _ old pos upd i (upd i) (fun k hk => congrArg upd ((lands_iff pos hpos k i).1 hk)) i ((lands_iff pos hpos i i).2 rfl)

section
variable (x0 : (⟨S1x2048x768, .f32⟩ : BufTy).Contents (Elt Ideal)) (x1 : (⟨S768x2304, .f32⟩ : BufTy).Contents (Elt Ideal))
  (x2 : (⟨S2304, .f32⟩ : BufTy).Contents (Elt Ideal)) (i : S1x12x2048x64.Idx)

/-- The key cache holds the dequantised keys. -/
theorem keyCache_at : val_main_v37 (F := Ideal) x0 x1 x2 i = val_main_v28 (F := Ideal) x0 x1 x2 i := by
  rw [val_main_v37]
  refine cache_at _ _ _ (fun j => ?_) i
  rw [val_main_v36_apply, val_main_v35_apply, val_main_v32_apply, val_main_v34_apply, val_main_v29_apply, val_main_v31_apply, val_main_v33_apply]
  exact wrap_position (j 0).val (j 0).isLt

/-- The value cache holds the values. -/
theorem valueCache_at : val_main_v45 (F := Ideal) x0 x1 x2 i = val_main_v12 (F := Ideal) x0 x1 x2 i := by
  rw [val_main_v45]
  refine cache_at _ _ _ (fun j => ?_) i
  rw [val_main_v44_apply, val_main_v43_apply, val_main_v40_apply, val_main_v42_apply, val_main_v29_apply, val_main_v39_apply, val_main_v41_apply]
  exact wrap_position (j 0).val (j 0).isLt

end

end Cert.Attn

end
-- ==== Proof.RefValue.lean ====
/- The reference's result, read at an index. -/
module

public import proofs.«01_k».proof.Proof.RefKeys
public import proofs.«01_k».proof.Proof.RefCache

@[expose] public section

set_option maxRecDepth 16384

noncomputable section

namespace Cert.Attn

open Cert.ReferenceIdeal Cert.ReferenceIdeal.Gen Cert.ReferenceIdeal.Read Idealize.ShloMosaic

section
variable {x0 : (⟨S1x2048x768, .f32⟩ : BufTy).Contents (Elt Ideal)} {x1 : (⟨S768x2304, .f32⟩ : BufTy).Contents (Elt Ideal)}
  {x2 : (⟨S2304, .f32⟩ : BufTy).Contents (Elt Ideal)} {X W : ℕ → ℕ → ℝ} {B : ℕ → ℝ} (h : Holds x0 x1 x2 X W B)
include h

/-- A score over 8, as a sum of products of real numbers. -/
theorem score_sum (i : S1x12x2048x2048.Idx) :
    val_main_v48 (F := Ideal) x0 x1 x2 i
      = Ideal.div (∑ d : Fin 64, ((qkv X W B (i 2).val (64 * (i 1).val + d.val) : ℝ) : EReal)
          * ((kd (keyRow X W B (i 3).val) (64 * (i 1).val + d.val) : ℝ) : EReal)) ((8 : ℝ) : EReal) := by
  rw [val_main_v48_apply, val_main_v46_apply, val_main_v47_apply]
  show Ideal.div _ (Ideal.ofBits .f32 0x41000000#32) = _
  rw [ofBits_eight]
  refine congrArg (fun a => Ideal.div a _) (Finset.sum_congr rfl fun d _ => ?_)
  rw [q_at h, keyCache_at, deq_at h]

/-- A score over 8 is a real number. -/
theorem score_real (i : S1x12x2048x2048.Idx) :
    val_main_v48 (F := Ideal) x0 x1 x2 i
      = (((∑ d : Fin 64, qkv X W B (i 2).val (64 * (i 1).val + d.val) * kd (keyRow X W B (i 3).val) (64 * (i 1).val + d.val)) / 8 : ℝ) : EReal) := by
  rw [score_sum h, ← coe_div _ _ (by norm_num), ← coe_sum]
  simp only [EReal.coe_mul]

/-- The bound that a row of scores is shifted by is a real number. -/
theorem bound_real (i : S1x12x2048.Idx) : ∃ m : ℝ, val_main_v51 (F := Ideal) x0 x1 x2 i = (m : EReal) := by
  have hr : S1x12x2048x2048.Reduces [3] S1x12x2048 := by decide
  have e : val_main_v51 (F := Ideal) x0 x1 x2 i
      = max ⊥ (Finset.univ.fold max ⊥ fun t : Fin 2048 => val_main_v48 (F := Ideal) x0 x1 x2 (hr.lift i t)) := by
    rw [val_main_v51_apply, val_main_v50_apply, val_main_v49,
      Host.reduce_eq_fold_single FloatOps.maximumf _ _ reducesTo_S1x12x2048x2048_S1x12x2048_d3 hr h_S_ i]
    exact congrArg₂ max ofBits_bot (congrArg (fun b => Finset.univ.fold max b _) ofBits_bot)
  rw [e, max_bot_left]
  simp only [score_real h]
  exact fold_max_real _

/-- An attention output by its head and its column there. -/
theorem refHead_at (i : S1x12x2048x64.Idx) :
    val_main_v60 (F := Ideal) x0 x1 x2 i = ((att X W B (i 2).val (64 * (i 1).val + (i 3).val) : ℝ) : EReal) := by
  have h3 : (i 3).val < 64 := (i 3).isLt
  obtain ⟨m, hm⟩ := bound_real h (idx_main_v52 (idx_main_v53 (lidx_main_v60 i 0)))
  have he : ∀ t : Fin 2048, val_main_v55 (F := Ideal) x0 x1 x2 (lidx_main_v60 i t)
      = Ideal.exp (Ideal.div (∑ d : Fin 64, ((qkv X W B (i 2).val (64 * (i 1).val + d.val) : ℝ) : EReal)
          * ((kd (keyRow X W B t.val) (64 * (i 1).val + d.val) : ℝ) : EReal)) ((8 : ℝ) : EReal) - (m : EReal)) := fun t => by
    rw [val_main_v55_apply, val_main_v54_apply, val_main_v53_apply, val_main_v52_apply, score_sum h]
    have e : idx_main_v52 (idx_main_v53 (lidx_main_v60 i t)) = idx_main_v52 (idx_main_v53 (lidx_main_v60 i 0)) := funext fun a => by
      match a with
      | ⟨0, _⟩ => rfl
      | ⟨1, _⟩ => rfl
      | ⟨2, _⟩ => rfl
    rw [e, hm]
    rfl
  have hs : ∀ t : Fin 2048, val_main_v58 (F := Ideal) x0 x1 x2 (lidx_main_v60 i t)
      = ∑ u : Fin 2048, val_main_v55 (F := Ideal) x0 x1 x2 (lidx_main_v60 i u) := fun t => by
    rw [val_main_v58_apply, val_main_v57_apply, val_main_v56_apply]
    show Ideal.ofBits .f32 0x00000000#32 + _ = _
    rw [Ideal.ofBits_zero, zero_add]
    refine Finset.sum_congr rfl fun u _ => congrArg _ (funext fun a => ?_)
    match a with
    | ⟨0, _⟩ => exact Fin.ext (Nat.lt_one_iff.1 (i 0).isLt).symm
    | ⟨1, _⟩ => rfl
    | ⟨2, _⟩ => rfl
    | ⟨3, _⟩ => rfl
  rw [val_main_v60_apply]
  refine Eq.trans (Finset.sum_congr rfl fun t _ => ?_)
    ((head_reference (fun d => qkv X W B (i 2).val (64 * (i 1).val + d.val)) (fun t d => kd (keyRow X W B t.val) (64 * (i 1).val + d.val))
      (fun t => qkv X W B t.val (1536 + (64 * (i 1).val + (i 3).val))) m
      (fun t => val_main_v55 (F := Ideal) x0 x1 x2 (lidx_main_v60 i t)) he).trans ?_)
  · rw [val_main_v59_apply, hs, valueCache_at, v_at h]
    rfl
  · have ho : (64 * (i 1).val + (i 3).val) / 64 * 64 = 64 * (i 1).val := by omega
    rw [att, ho]
    rfl

/-- An attention output by its column in the joined heads. -/
theorem att_at (i : S1x2048x768.Idx) {s c : ℕ} (hs : (i 1).val = s) (hc : (i 2).val = c) :
    val_main_v62 (F := Ideal) x0 x1 x2 i = ((att X W B s c : ℝ) : EReal) := by
  subst hs hc
  have h0 : (i 0).val < 1 := (i 0).isLt
  have h1 : (i 1).val < 2048 := (i 1).isLt
  have h2 : (i 2).val < 768 := (i 2).isLt
  have e1 : (((i 0).val * 2048 + (i 1).val) * 768 + (i 2).val) / 768 % 2048 = (i 1).val := by omega
  have e2 : 64 * ((((i 0).val * 2048 + (i 1).val) * 768 + (i 2).val) / 64 % 12)
      + (((i 0).val * 2048 + (i 1).val) * 768 + (i 2).val) % 64 = (i 2).val := by omega
  rw [val_main_v62_apply, val_main_v61_apply, refHead_at h]
  exact congrArg (fun r : ℝ => (r : EReal)) (congrArg₂ (att X W B) e1 e2)

/-- The reference's result. -/
theorem reference_at (x3 : (⟨S768x768, .f32⟩ : BufTy).Contents (Elt Ideal)) (x4 : (⟨S768, .f32⟩ : BufTy).Contents (Elt Ideal)) (i : S2048x768.Idx) :
    val_main_v67 (F := Ideal) x0 x1 x2 x3 x4 i = value x3 x4 X W B (i 0) (i 1) := by
  have h0 : (i 0).val < 2048 := (i 0).isLt
  have h1 : (i 1).val < 768 := (i 1).isLt
  have e0 : ((i 0).val * 768 + (i 1).val) / 768 % 2048 = (i 0).val := by omega
  have e1 : ((i 0).val * 768 + (i 1).val) % 768 = (i 1).val := by omega
  rw [val_main_v67_apply, val_main_v66_apply, val_main_v65_apply, val_main_v64_apply, val_main_v63_apply]
  refine congrArg₂ (fun a b : EReal => a + b) (Finset.sum_congr rfl fun k _ => ?_) (congrArg x4 (funext fun a => ?_))
  · rw [att_at h _ e0 rfl]
    refine congrArg (_ * ·) (congrArg x3 (funext fun a => ?_))
    match a with
    | ⟨0, _⟩ => rfl
    | ⟨1, _⟩ => exact Fin.ext e1
  · match a with
    | ⟨0, _⟩ => exact Fin.ext e1

end

end Cert.Attn

end
-- ==== Proof.Finite.lean ====
/- The precondition: it says that the input, the first weight and the first bias hold real numbers. -/
module

public import proofs.«01_k».proof.Pre_finite
public import proofs.«01_k».proof.Proof.Result
public import Idealize.ShloMosaic.Lib.ReduceAll

@[expose] public section

set_option maxRecDepth 16384

noncomputable section

namespace Cert.Attn

open Idealize.ShloMosaic

/-- The shape relations that the precondition states. -/
theorem finiteFacts : Cert.Pre_finite.Facts where
  bcast_S_S1x2048x768 := by decide
  reducesTo_S1x2048x768_S_d0_1_2 := by decide
  h_S_ := by decide
  bcast_S_S768x2304 := by decide
  reducesTo_S768x2304_S_d0_1 := by decide
  bcast_S_S2304 := by decide
  reducesTo_S2304_S_d0 := by decide

/-- An array whose every magnitude compares below infinity holds real numbers. -/
theorem real_of_all {s t u : Shape} {axes : List (Fin s.rank)} [Subsingleton t.Idx] (x : FVec Ideal s .f32) (y : FVec Ideal s .f32)
    (hy : ∀ i, y i = ⊤) (one : u.Idx → BitVec 1) (h : s.ReducesTo axes t) (hu : 0 < u.numel) (j : t.Idx)
    (e : Host.reduce IntOp.andi (cmpf .olt (Host.absf x) y) one h hu j = 1#1) (i : s.Idx) : ∃ r : ℝ, x i = (r : EReal) := by
  have hi : Ideal.cmp .olt (max (x i) (-(x i))) (y i) = 1#1 := Host.reduce_andi_all _ _ h hu j e i
  rw [hy] at hi
  refine real_of_abs_lt_top ?_
  by_contra hn
  rw [Ideal.cmp, decide_eq_false hn] at hi
  exact absurd hi (by decide)

/-- Under the precondition the first projection's arguments hold real numbers. -/
theorem holds_of_finite [Cert.Pre_finite.Facts] (a0 : FVec Ideal Cert.KernelIdeal.S1x2048x768 .f32) (a1 : FVec Ideal Cert.KernelIdeal.S768x2304 .f32)
    (a2 : FVec Ideal Cert.KernelIdeal.S2304 .f32) (a3 : FVec Ideal Cert.KernelIdeal.S768x768 .f32) (a4 : FVec Ideal Cert.KernelIdeal.S768 .f32)
    (e : Cert.Pre_finite.fn (F := Ideal) a0 a1 a2 a3 a4 = fun _ => 1#1) :
    ∃ (X W : ℕ → ℕ → ℝ) (B : ℕ → ℝ), Holds a0 a1 a2 X W B := by
  haveI : Subsingleton Cert.Pre_finite.S_.Idx := ⟨fun a b => funext fun k => k.elim0⟩
  have e1 := congrFun e (fun k => k.elim0)
  obtain ⟨e2, eb⟩ := IntOp.andi_eq_one.1 e1
  obtain ⟨ex, ew⟩ := IntOp.andi_eq_one.1 e2
  choose fx hx using real_of_all a0 _ (fun _ => ofBits_top) _ _ _ _ ex
  choose fw hw using real_of_all a1 _ (fun _ => ofBits_top) _ _ _ _ ew
  choose fb hb using real_of_all a2 _ (fun _ => ofBits_top) _ _ _ _ eb
  refine ⟨fun s i => if h : s < 2048 ∧ i < 768 then fx (ix3 0 ⟨s, h.1⟩ ⟨i, h.2⟩) else 0,
    fun i j => if h : i < 768 ∧ j < 2304 then fw (ix2 ⟨i, h.1⟩ ⟨j, h.2⟩) else 0,
    fun j => if h : j < 2304 then fb (ix1 ⟨j, h⟩) else 0, ⟨fun s i => ?_, fun i j => ?_, fun j => ?_⟩⟩
  · rw [dif_pos ⟨s.isLt, i.isLt⟩]; exact hx _
  · rw [dif_pos ⟨i.isLt, j.isLt⟩]; exact hw _
  · rw [dif_pos j.isLt]; exact hb _

end Cert.Attn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem

/-- The kernel runs, leaves its arguments as they were, and ends with every counter at zero. -/
theorem frame_kernel : Cert.quiescent_Kernel := fun m g _ => Cert.Kernel.Gen.frame m g

/-- The idealised kernel runs, leaves its arguments as they were, and ends with every counter at zero. -/
theorem frame_ideal : Cert.quiescent_KernelIdeal := fun m g _ => Cert.KernelIdeal.Gen.frame m g

/-- The reference runs, leaves its arguments as they were, and ends with every counter at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The folded scale is a rounding of the real number it is named as. -/
theorem preserves : Cert.preserves_Kernel_KernelIdeal :=
  IdealRules.named_const.statement Cert.KernelIdeal.κ "scale" .f32 0x3E38AA3B#32 (((1 / 8) * (Real.log 2)⁻¹ : ℝ) : EReal) rfl

/-- Where the first projection's arguments are real, the idealised kernel and the reference return the same array. -/
theorem algebraic : Cert.algebraic_KernelIdeal_ReferenceIdeal_pre_finite (hPre_finite := Cert.Attn.finiteFacts) := by
  intro m g m' g' hpre hargs
  letI := Cert.Attn.finiteFacts
  have hh : ∀ c, ∃ (X W : ℕ → ℕ → ℝ) (B : ℕ → ℝ), Cert.Attn.Holds (Cert.Attn.arg0 m c) (Cert.Attn.arg1 m c) (Cert.Attn.arg2 m c) X W B :=
    fun c => Cert.Attn.holds_of_finite _ _ _ _ _ (hpre c)
  choose X W B hXWB using hh
  refine ⟨fun c => Cert.Attn.result m c (X c) (W c) (B c), ?_, ?_⟩
  · exact (θ_run Cert.KernelIdeal.defs _ _).mono
      (fun r h c => ⟨(h c).1.trans (Cert.Attn.final_eq m c (X c) (W c) (B c) (hXWB c)), (h c).2⟩)
      (Cert.KernelIdeal.Value.run_blocks m g)
  · refine (θ_run Cert.ReferenceIdeal.defs _ _).mono (fun r h c => ⟨(h c).1.trans ?_, (h c).2⟩)
      (Cert.ReferenceIdeal.Value.run (F := Ideal) m' g')
    obtain ⟨h0, h1, h2, h3, h4⟩ := hargs c
    rw [Cert.ReferenceIdeal.Read.val_main_v67_eq, h0, h1, h2, h3, h4]
    exact funext fun i => Cert.Attn.reference_at (hXWB c) _ _ i

/-- The certificate's claim. -/
theorem claim : Cert.Claim :=
  ⟨Cert.Kernel.Gen.facts, Cert.KernelIdeal.Gen.facts, Cert.ReferenceIdeal.Gen.facts, Cert.Attn.finiteFacts,
    frame_kernel, frame_ideal, fun m g _ => frame_ideal m g trivial, frame_reference, fun m g _ => frame_reference m g trivial,
    preserves, algebraic⟩

end Cert.Proof

end
